-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_and_untied [hPre_plain_and_untied : Cert.Pre_plain_and_untied.Facts] (m : (ℓ : Loc Cert.KernelIdeal.nD Cert.KernelIdeal.τ Cert.KernelIdeal.sig) → Buf (Elt Ideal) ℓ) : Prop :=
  ∀ c : Dev Cert.KernelIdeal.nD,
    (Cert.Pre_plain_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_plain_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_plain_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_plain_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_plain_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 = (fun _ => 1#1)
    ∧ (Cert.Pre_plain_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 = (fun _ => 1#1)
    ∧ (Cert.Pre_plain_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 = (fun _ => 1#1)
    ∧ (Cert.Pre_plain_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.1 = (fun _ => 1#1)
    ∧ (Cert.Pre_plain_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.1 = (fun _ => 1#1)
    ∧ (Cert.Pre_plain_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.1 = (fun _ => 1#1)
    ∧ (Cert.Pre_plain_and_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_and_untied [hPre_plain_and_untied : Cert.Pre_plain_and_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_plain_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_plain_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_plain_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_plain_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.1 = (fun _ => 1#1)
    ∧ (Cert.Pre_plain_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.1 = (fun _ => 1#1)
    ∧ (Cert.Pre_plain_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.1 = (fun _ => 1#1)
    ∧ (Cert.Pre_plain_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.1 = (fun _ => 1#1)
    ∧ (Cert.Pre_plain_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.1 = (fun _ => 1#1)
    ∧ (Cert.Pre_plain_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.1 = (fun _ => 1#1)
    ∧ (Cert.Pre_plain_and_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_plain_and_untied [hKernelIdeal : Cert.KernelIdeal.Facts] [hPre_plain_and_untied : Cert.Pre_plain_and_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_and_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_plain_and_untied [hReferenceIdeal : Cert.ReferenceIdeal.Facts] [hPre_plain_and_untied : Cert.Pre_plain_and_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_and_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_plain_and_untied [hKernelIdeal : Cert.KernelIdeal.Facts] [hReferenceIdeal : Cert.ReferenceIdeal.Facts] [hPre_plain_and_untied : Cert.Pre_plain_and_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_and_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_plain_and_untied : Cert.Pre_plain_and_untied.Facts),
    quiescent_Kernel (hKernel := hKernel)
    ∧ quiescent_KernelIdeal (hKernelIdeal := hKernelIdeal)
    ∧ quiescent_KernelIdeal_pre_plain_and_untied (hKernelIdeal := hKernelIdeal) (hPre_plain_and_untied := hPre_plain_and_untied)
    ∧ quiescent_ReferenceIdeal (hReferenceIdeal := hReferenceIdeal)
    ∧ quiescent_ReferenceIdeal_pre_plain_and_untied (hReferenceIdeal := hReferenceIdeal) (hPre_plain_and_untied := hPre_plain_and_untied)
    ∧ preserves_Kernel_KernelIdeal
    ∧ algebraic_KernelIdeal_ReferenceIdeal_pre_plain_and_untied (hKernelIdeal := hKernelIdeal) (hReferenceIdeal := hReferenceIdeal) (hPre_plain_and_untied := hPre_plain_and_untied)
-- ==== Pre_plain_and_untied.lean ====
abbrev S16384x768 : Shape := ⟨2, ![16384, 768]⟩
abbrev S768x2048 : Shape := ⟨2, ![768, 2048]⟩
abbrev S2048 : Shape := ⟨1, ![2048]⟩
abbrev S2048x256 : Shape := ⟨2, ![2048, 256]⟩
abbrev S256 : Shape := ⟨1, ![256]⟩
abbrev S256x2048 : Shape := ⟨2, ![256, 2048]⟩
abbrev S2048x768 : Shape := ⟨2, ![2048, 768]⟩
abbrev S768 : Shape := ⟨1, ![768]⟩
abbrev S3x1024x256 : Shape := ⟨3, ![3, 1024, 256]⟩
abbrev S3x16384x1024 : Shape := ⟨3, ![3, 16384, 1024]⟩
abbrev S_ : Shape := ⟨0, ![]⟩
abbrev S16384x2048 : Shape := ⟨2, ![16384, 2048]⟩
abbrev S1x2048 : Shape := ⟨2, ![1, 2048]⟩
abbrev S16384x256 : Shape := ⟨2, ![16384, 256]⟩
abbrev S1x256 : Shape := ⟨2, ![1, 256]⟩
abbrev S1x1024x256 : Shape := ⟨3, ![1, 1024, 256]⟩
abbrev S1024x256 : Shape := ⟨2, ![1024, 256]⟩
abbrev S16384 : Shape := ⟨1, ![16384]⟩
abbrev S16384x1 : Shape := ⟨2, ![16384, 1]⟩
abbrev S256x1024 : Shape := ⟨2, ![256, 1024]⟩
abbrev S16384x1024 : Shape := ⟨2, ![16384, 1024]⟩
abbrev S1024 : Shape := ⟨1, ![1024]⟩
abbrev S1x1024 : Shape := ⟨2, ![1, 1024]⟩
abbrev S1x16384x1024 : Shape := ⟨3, ![1, 16384, 1024]⟩

class Facts : Prop where
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  slices_S3x1024x256_S1x1024x256_0_0_0 : S3x1024x256.Slices ![0, 0, 0] S1x1024x256
  shapeCasts_S1x1024x256_S1024x256 : S1x1024x256.ShapeCasts S1024x256
  reducesTo_S16384x256_S16384_d1 : S16384x256.ReducesTo [1] S16384
  h_S_ : 0 < S_.numel
  bcast_S16384_S16384x1_0 : S16384.BroadcastsInDim S16384x1 (![0] : Fin 1 → Fin S16384x1.rank)
  transposes_S1024x256_S256x1024_1_0 : S1024x256.Transposes [1, 0] S256x1024
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)
  reducesTo_S1024x256_S1024_d1 : S1024x256.ReducesTo [1] S1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  slices_S3x16384x1024_S1x16384x1024_0_0_0 : S3x16384x1024.Slices ![0, 0, 0] S1x16384x1024
  shapeCasts_S1x16384x1024_S16384x1024 : S1x16384x1024.ShapeCasts S16384x1024
  reducesTo_S16384x1024_S16384_d1 : S16384x1024.ReducesTo [1] S16384
  bcast_S_S16384 : S_.BroadcastsInDim S16384 (![] : Fin 0 → Fin S16384.rank)
  slices_S3x1024x256_S1x1024x256_1_0_0 : S3x1024x256.Slices ![1, 0, 0] S1x1024x256
  slices_S3x16384x1024_S1x16384x1024_1_0_0 : S3x16384x1024.Slices ![1, 0, 0] S1x16384x1024
  slices_S3x1024x256_S1x1024x256_2_0_0 : S3x1024x256.Slices ![2, 0, 0] S1x1024x256
  slices_S3x16384x1024_S1x16384x1024_2_0_0 : S3x16384x1024.Slices ![2, 0, 0] S1x16384x1024
  bcast_S_S2048 : S_.BroadcastsInDim S2048 (![] : Fin 0 → Fin S2048.rank)
  bcast_S_S256 : S_.BroadcastsInDim S256 (![] : Fin 0 → Fin S256.rank)
  bcast_S_S768 : S_.BroadcastsInDim S768 (![] : Fin 0 → Fin S768.rank)
  bcast_S_S3x1024x256 : S_.BroadcastsInDim S3x1024x256 (![] : Fin 0 → Fin S3x1024x256.rank)
  bcast_S_S3x16384x1024 : S_.BroadcastsInDim S3x16384x1024 (![] : Fin 0 → Fin S3x16384x1024.rank)
  dot_S16384x768_S768x2048_S16384x2048_1_0_0_1_n_n_wf : DotDims.WF S16384x768 S768x2048 S16384x2048 [1] [0] [0] [1] [] []
  dot_S16384x2048_S2048x256_S16384x256_1_0_0_1_n_n_wf : DotDims.WF S16384x2048 S2048x256 S16384x256 [1] [0] [0] [1] [] []
  dot_S16384x256_S256x1024_S16384x1024_1_0_0_1_n_n_wf : DotDims.WF S16384x256 S256x1024 S16384x1024 [1] [0] [0] [1] [] []
  dot_S16384x1024_S1024x256_S16384x256_1_0_0_1_n_n_wf : DotDims.WF S16384x1024 S1024x256 S16384x256 [1] [0] [0] [1] [] []

variable [Facts]

def dot_S16384x768_S768x2048_S16384x2048_1_0_0_1_n_n : DotDims S16384x768 S768x2048 S16384x2048 where
  lhsContracting := [1]
  rhsContracting := [0]
  lhsNonContracting := [0]
  rhsNonContracting := [1]
  lhsBatch := []
  rhsBatch := []
  wf := dot_S16384x768_S768x2048_S16384x2048_1_0_0_1_n_n_wf
def dot_S16384x2048_S2048x256_S16384x256_1_0_0_1_n_n : DotDims S16384x2048 S2048x256 S16384x256 where
  lhsContracting := [1]
  rhsContracting := [0]
  lhsNonContracting := [0]
  rhsNonContracting := [1]
  lhsBatch := []
  rhsBatch := []
  wf := dot_S16384x2048_S2048x256_S16384x256_1_0_0_1_n_n_wf
def dot_S16384x256_S256x1024_S16384x1024_1_0_0_1_n_n : DotDims S16384x256 S256x1024 S16384x1024 where
  lhsContracting := [1]
  rhsContracting := [0]
  lhsNonContracting := [0]
  rhsNonContracting := [1]
  lhsBatch := []
  rhsBatch := []
  wf := dot_S16384x256_S256x1024_S16384x1024_1_0_0_1_n_n_wf
def dot_S16384x1024_S1024x256_S16384x256_1_0_0_1_n_n : DotDims S16384x1024 S1024x256 S16384x256 where
  lhsContracting := [1]
  rhsContracting := [0]
  lhsNonContracting := [0]
  rhsNonContracting := [1]
  lhsBatch := []
  rhsBatch := []
  wf := dot_S16384x1024_S1024x256_S16384x256_1_0_0_1_n_n_wf
def fn_where {F : FTy → Type} [FloatOps F] (arg0 : IVec S16384x1024 1) (arg1 : FVec F S_ .f32) (arg2 : FVec F S_ .f32) : FVec F S16384x1024 .f32 :=
  let v0 : FVec F S16384x1024 .f32 := broadcastInDim S16384x1024 ![] bcast_S_S16384x1024 arg1
  let v1 : FVec F S16384x1024 .f32 := broadcastInDim S16384x1024 ![] bcast_S_S16384x1024 arg2
  let v2 : FVec F S16384x1024 .f32 := select arg0 v0 v1
  v2

def fn_part6 {F : FTy → Type} [FloatOps F] (main_arg9 : FVec F S3x1024x256 .f32) (main_arg10 : FVec F S3x16384x1024 .f32) (main_v38 : IVec S16384 1) (main_v69 : IVec S16384 1) (main_v100 : IVec S16384 1) (main_v104 : IVec S2048 1) (main_v106 : IVec S256 1) (main_v108 : IVec S2048 1) (main_v110 : IVec S768 1) (main_v111 : IVec S_ 1) (main_v112 : IVec S_ 1) : IVec S2048 1 × IVec S256 1 × IVec S2048 1 × IVec S768 1 × IVec S_ 1 × IVec S_ 1 × IVec S3x1024x256 1 × IVec S3x16384x1024 1 × IVec S16384 1 × IVec S16384 1 × IVec S16384 1 :=
  let main_v113 : FVec F S3x1024x256 .f32 := Host.absf main_arg9
  let main_cst_30 : FVec F S_ .f32 := constant S_ .f32 0x7F800000#32
  let main_v114 : FVec F S3x1024x256 .f32 := broadcastInDim S3x1024x256 ![] bcast_S_S3x1024x256 main_cst_30
  let main_v115 : IVec S3x1024x256 1 := cmpf .olt main_v113 main_v114
  let main_cst_31 : FVec F S_ .f32 := constant S_ .f32 0x7F800000#32
  let main_v116 : FVec F S3x16384x1024 .f32 := broadcastInDim S3x16384x1024 ![] bcast_S_S3x16384x1024 main_cst_31
  let main_v117 : IVec S3x16384x1024 1 := cmpf .olt main_arg10 main_v116
  (main_v104, main_v106, main_v108, main_v110, main_v111, main_v112, main_v115, main_v117, main_v38, main_v69, main_v100)

def fn_part5 {F : FTy → Type} [FloatOps F] (main_arg2 : FVec F S2048 .f32) (main_arg4 : FVec F S256 .f32) (main_arg6 : FVec F S2048 .f32) (main_arg8 : FVec F S768 .f32) (main_arg9 : FVec F S3x1024x256 .f32) (main_arg10 : FVec F S3x16384x1024 .f32) (main_arg11 : FVec F S_ .f32) (main_v38 : IVec S16384 1) (main_v69 : IVec S16384 1) (main_v71 : FVec F S16384x256 .f32) (main_v73 : FVec F S1024x256 .f32) (main_v96 : FVec F S16384x1024 .f32) : IVec S2048 1 × IVec S256 1 × IVec S2048 1 × IVec S768 1 × IVec S_ 1 × IVec S_ 1 × IVec S3x1024x256 1 × IVec S3x16384x1024 1 × IVec S16384 1 × IVec S16384 1 × IVec S16384 1 :=
  let main_v97 : FVec F S16384x1024 .f32 := id main_v96
  let main_cst_22 : FVec F S_ .f32 := constant S_ .f32 0x00000000#32
  let main_v98 : FVec F S16384 .f32 := (fun x v => Host.reduceAdd x v reducesTo_S16384x1024_S16384_d1 h_S_) main_v97 main_cst_22
  let main_cst_23 : FVec F S_ .f32 := constant S_ .f32 0x3F800000#32
  let main_v99 : FVec F S16384 .f32 := broadcastInDim S16384 ![] bcast_S_S16384 main_cst_23
  let main_v100 : IVec S16384 1 := cmpf .oeq main_v98 main_v99
  let main_v101 : FVec F S16384x256 .f32 := (fun l r => Host.dotGeneral dot_S16384x1024_S1024x256_S16384x256_1_0_0_1_n_n none l r) main_v96 main_v73
  let main_v102 : FVec F S16384x256 .f32 := subf main_v71 main_v101
  let main_cst_24 : FVec F S_ .f32 := constant S_ .f32 0x00000000#32
  let main_v103 : FVec F S2048 .f32 := broadcastInDim S2048 ![] bcast_S_S2048 main_cst_24
  let main_v104 : IVec S2048 1 := cmpf .oeq main_arg2 main_v103
  let main_cst_25 : FVec F S_ .f32 := constant S_ .f32 0x00000000#32
  let main_v105 : FVec F S256 .f32 := broadcastInDim S256 ![] bcast_S_S256 main_cst_25
  let main_v106 : IVec S256 1 := cmpf .oeq main_arg4 main_v105
  let main_cst_26 : FVec F S_ .f32 := constant S_ .f32 0x00000000#32
  let main_v107 : FVec F S2048 .f32 := broadcastInDim S2048 ![] bcast_S_S2048 main_cst_26
  let main_v108 : IVec S2048 1 := cmpf .oeq main_arg6 main_v107
  let main_cst_27 : FVec F S_ .f32 := constant S_ .f32 0x00000000#32
  let main_v109 : FVec F S768 .f32 := broadcastInDim S768 ![] bcast_S_S768 main_cst_27
  let main_v110 : IVec S768 1 := cmpf .oeq main_arg8 main_v109
  let main_cst_28 : FVec F S_ .f32 := constant S_ .f32 0x00000000#32
  let main_v111 : IVec S_ 1 := cmpf .ogt main_arg11 main_cst_28
  let main_cst_29 : FVec F S_ .f32 := constant S_ .f32 0x7F800000#32
  let main_v112 : IVec S_ 1 := cmpf .olt main_arg11 main_cst_29
  fn_part6 (F := F) main_arg9 main_arg10 main_v38 main_v69 main_v100 main_v104 main_v106 main_v108 main_v110 main_v111 main_v112

def fn_part4 {F : FTy → Type} [FloatOps F] (main_arg2 : FVec F S2048 .f32) (main_arg4 : FVec F S256 .f32) (main_arg6 : FVec F S2048 .f32) (main_arg8 : FVec F S768 .f32) (main_arg9 : FVec F S3x1024x256 .f32) (main_arg10 : FVec F S3x16384x1024 .f32) (main_arg11 : FVec F S_ .f32) (main_v38 : IVec S16384 1) (main_v69 : IVec S16384 1) (main_v71 : FVec F S16384x256 .f32) (main_v73 : FVec F S1024x256 .f32) (main_v76 : FVec F S16384x1 .f32) (main_v77 : FVec F S256x1024 .f32) : IVec S2048 1 × IVec S256 1 × IVec S2048 1 × IVec S768 1 × IVec S_ 1 × IVec S_ 1 × IVec S3x1024x256 1 × IVec S3x16384x1024 1 × IVec S16384 1 × IVec S16384 1 × IVec S16384 1 :=
  let main_v78 : FVec F S16384x1024 .f32 := (fun l r => Host.dotGeneral dot_S16384x256_S256x1024_S16384x1024_1_0_0_1_n_n none l r) main_v71 main_v77
  let main_cst_17 : FVec F S_ .f32 := constant S_ .f32 0x40000000#32
  let main_v79 : FVec F S16384x1024 .f32 := broadcastInDim S16384x1024 ![] bcast_S_S16384x1024 main_cst_17
  let main_v80 : FVec F S16384x1024 .f32 := mulf main_v79 main_v78
  let main_v81 : FVec F S16384x1024 .f32 := broadcastInDim S16384x1024 ![0, 1] bcast_S16384x1_S16384x1024_0_1 main_v76
  let main_v82 : FVec F S16384x1024 .f32 := subf main_v81 main_v80
  let main_v83 : FVec F S1024x256 .f32 := mulf main_v73 main_v73
  let main_cst_18 : FVec F S_ .f32 := constant S_ .f32 0x00000000#32
  let main_v84 : FVec F S1024 .f32 := (fun x v => Host.reduceAdd x v reducesTo_S1024x256_S1024_d1 h_S_) main_v83 main_cst_18
  let main_v85 : FVec F S1x1024 .f32 := broadcastInDim S1x1024 ![1] bcast_S1024_S1x1024_1 main_v84
  let main_v86 : FVec F S16384x1024 .f32 := broadcastInDim S16384x1024 ![0, 1] bcast_S1x1024_S16384x1024_0_1 main_v85
  let main_v87 : FVec F S16384x1024 .f32 := addf main_v82 main_v86
  let main_v88 : FVec F S16384x1024 .f32 := Host.negf main_v87
  let main_v89 : FVec F S1x16384x1024 .f32 := (extractStridedSlice S1x16384x1024 ![2, 0, 0] · slices_S3x16384x1024_S1x16384x1024_2_0_0) main_arg10
  let main_v90 : FVec F S16384x1024 .f32 := shapeCast S16384x1024 main_v89 shapeCasts_S1x16384x1024_S16384x1024
  let main_v91 : FVec F S16384x1024 .f32 := addf main_v88 main_v90
  let main_cst_19 : FVec F S_ .f32 := constant S_ .f32 0xFF800000#32
  let main_v92 : FVec F S16384 .f32 := (fun x v => Host.reduce FloatOps.maximumf x v reducesTo_S16384x1024_S16384_d1 h_S_) main_v91 main_cst_19
  let main_v93 : FVec F S16384x1 .f32 := broadcastInDim S16384x1 ![0] bcast_S16384_S16384x1_0 main_v92
  let main_v94 : FVec F S16384x1024 .f32 := broadcastInDim S16384x1024 ![0, 1] bcast_S16384x1_S16384x1024_0_1 main_v93
  let main_v95 : IVec S16384x1024 1 := cmpf .oeq main_v91 main_v94
  let main_cst_20 : FVec F S_ .f32 := constant S_ .f32 0x3F800000#32
  let main_cst_21 : FVec F S_ .f32 := constant S_ .f32 0x00000000#32
  let main_v96 : FVec F S16384x1024 .f32 := fn_where (F := F) main_v95 main_cst_20 main_cst_21
  fn_part5 (F := F) main_arg2 main_arg4 main_arg6 main_arg8 main_arg9 main_arg10 main_arg11 main_v38 main_v69 main_v71 main_v73 main_v96

def fn_part3 {F : FTy → Type} [FloatOps F] (main_arg2 : FVec F S2048 .f32) (main_arg4 : FVec F S256 .f32) (main_arg6 : FVec F S2048 .f32) (main_arg8 : FVec F S768 .f32) (main_arg9 : FVec F S3x1024x256 .f32) (main_arg10 : FVec F S3x16384x1024 .f32) (main_arg11 : FVec F S_ .f32) (main_v38 : IVec S16384 1) (main_v40 : FVec F S16384x256 .f32) (main_v42 : FVec F S1024x256 .f32) (main_v57 : FVec F S16384x1024 .f32) (main_v59 : FVec F S16384x1024 .f32) : IVec S2048 1 × IVec S256 1 × IVec S2048 1 × IVec S768 1 × IVec S_ 1 × IVec S_ 1 × IVec S3x1024x256 1 × IVec S3x16384x1024 1 × IVec S16384 1 × IVec S16384 1 × IVec S16384 1 :=
  let main_v60 : FVec F S16384x1024 .f32 := addf main_v57 main_v59
  let main_cst_11 : FVec F S_ .f32 := constant S_ .f32 0xFF800000#32
  let main_v61 : FVec F S16384 .f32 := (fun x v => Host.reduce FloatOps.maximumf x v reducesTo_S16384x1024_S16384_d1 h_S_) main_v60 main_cst_11
  let main_v62 : FVec F S16384x1 .f32 := broadcastInDim S16384x1 ![0] bcast_S16384_S16384x1_0 main_v61
  let main_v63 : FVec F S16384x1024 .f32 := broadcastInDim S16384x1024 ![0, 1] bcast_S16384x1_S16384x1024_0_1 main_v62
  let main_v64 : IVec S16384x1024 1 := cmpf .oeq main_v60 main_v63
  let main_cst_12 : FVec F S_ .f32 := constant S_ .f32 0x3F800000#32
  let main_cst_13 : FVec F S_ .f32 := constant S_ .f32 0x00000000#32
  let main_v65 : FVec F S16384x1024 .f32 := fn_where (F := F) main_v64 main_cst_12 main_cst_13
  let main_v66 : FVec F S16384x1024 .f32 := id main_v65
  let main_cst_14 : FVec F S_ .f32 := constant S_ .f32 0x00000000#32
  let main_v67 : FVec F S16384 .f32 := (fun x v => Host.reduceAdd x v reducesTo_S16384x1024_S16384_d1 h_S_) main_v66 main_cst_14
  let main_cst_15 : FVec F S_ .f32 := constant S_ .f32 0x3F800000#32
  let main_v68 : FVec F S16384 .f32 := broadcastInDim S16384 ![] bcast_S_S16384 main_cst_15
  let main_v69 : IVec S16384 1 := cmpf .oeq main_v67 main_v68
  let main_v70 : FVec F S16384x256 .f32 := (fun l r => Host.dotGeneral dot_S16384x1024_S1024x256_S16384x256_1_0_0_1_n_n none l r) main_v65 main_v42
  let main_v71 : FVec F S16384x256 .f32 := subf main_v40 main_v70
  let main_v72 : FVec F S1x1024x256 .f32 := (extractStridedSlice S1x1024x256 ![2, 0, 0] · slices_S3x1024x256_S1x1024x256_2_0_0) main_arg9
  let main_v73 : FVec F S1024x256 .f32 := shapeCast S1024x256 main_v72 shapeCasts_S1x1024x256_S1024x256
  let main_v74 : FVec F S16384x256 .f32 := mulf main_v71 main_v71
  let main_cst_16 : FVec F S_ .f32 := constant S_ .f32 0x00000000#32
  let main_v75 : FVec F S16384 .f32 := (fun x v => Host.reduceAdd x v reducesTo_S16384x256_S16384_d1 h_S_) main_v74 main_cst_16
  let main_v76 : FVec F S16384x1 .f32 := broadcastInDim S16384x1 ![0] bcast_S16384_S16384x1_0 main_v75
  let main_v77 : FVec F S256x1024 .f32 := (transpose S256x1024 [1, 0] · transposes_S1024x256_S256x1024_1_0) main_v73
  fn_part4 (F := F) main_arg2 main_arg4 main_arg6 main_arg8 main_arg9 main_arg10 main_arg11 main_v38 main_v69 main_v71 main_v73 main_v76 main_v77

def fn_part2 {F : FTy → Type} [FloatOps F] (main_arg2 : FVec F S2048 .f32) (main_arg4 : FVec F S256 .f32) (main_arg6 : FVec F S2048 .f32) (main_arg8 : FVec F S768 .f32) (main_arg9 : FVec F S3x1024x256 .f32) (main_arg10 : FVec F S3x16384x1024 .f32) (main_arg11 : FVec F S_ .f32) (main_v9 : FVec F S16384x256 .f32) (main_v11 : FVec F S1024x256 .f32) (main_v34 : FVec F S16384x1024 .f32) (main_v38 : IVec S16384 1) : IVec S2048 1 × IVec S256 1 × IVec S2048 1 × IVec S768 1 × IVec S_ 1 × IVec S_ 1 × IVec S3x1024x256 1 × IVec S3x16384x1024 1 × IVec S16384 1 × IVec S16384 1 × IVec S16384 1 :=
  let main_v39 : FVec F S16384x256 .f32 := (fun l r => Host.dotGeneral dot_S16384x1024_S1024x256_S16384x256_1_0_0_1_n_n none l r) main_v34 main_v11
  let main_v40 : FVec F S16384x256 .f32 := subf main_v9 main_v39
  let main_v41 : FVec F S1x1024x256 .f32 := (extractStridedSlice S1x1024x256 ![1, 0, 0] · slices_S3x1024x256_S1x1024x256_1_0_0) main_arg9
  let main_v42 : FVec F S1024x256 .f32 := shapeCast S1024x256 main_v41 shapeCasts_S1x1024x256_S1024x256
  let main_v43 : FVec F S16384x256 .f32 := mulf main_v40 main_v40
  let main_cst_8 : FVec F S_ .f32 := constant S_ .f32 0x00000000#32
  let main_v44 : FVec F S16384 .f32 := (fun x v => Host.reduceAdd x v reducesTo_S16384x256_S16384_d1 h_S_) main_v43 main_cst_8
  let main_v45 : FVec F S16384x1 .f32 := broadcastInDim S16384x1 ![0] bcast_S16384_S16384x1_0 main_v44
  let main_v46 : FVec F S256x1024 .f32 := (transpose S256x1024 [1, 0] · transposes_S1024x256_S256x1024_1_0) main_v42
  let main_v47 : FVec F S16384x1024 .f32 := (fun l r => Host.dotGeneral dot_S16384x256_S256x1024_S16384x1024_1_0_0_1_n_n none l r) main_v40 main_v46
  let main_cst_9 : FVec F S_ .f32 := constant S_ .f32 0x40000000#32
  let main_v48 : FVec F S16384x1024 .f32 := broadcastInDim S16384x1024 ![] bcast_S_S16384x1024 main_cst_9
  let main_v49 : FVec F S16384x1024 .f32 := mulf main_v48 main_v47
  let main_v50 : FVec F S16384x1024 .f32 := broadcastInDim S16384x1024 ![0, 1] bcast_S16384x1_S16384x1024_0_1 main_v45
  let main_v51 : FVec F S16384x1024 .f32 := subf main_v50 main_v49
  let main_v52 : FVec F S1024x256 .f32 := mulf main_v42 main_v42
  let main_cst_10 : FVec F S_ .f32 := constant S_ .f32 0x00000000#32
  let main_v53 : FVec F S1024 .f32 := (fun x v => Host.reduceAdd x v reducesTo_S1024x256_S1024_d1 h_S_) main_v52 main_cst_10
  let main_v54 : FVec F S1x1024 .f32 := broadcastInDim S1x1024 ![1] bcast_S1024_S1x1024_1 main_v53
  let main_v55 : FVec F S16384x1024 .f32 := broadcastInDim S16384x1024 ![0, 1] bcast_S1x1024_S16384x1024_0_1 main_v54
  let main_v56 : FVec F S16384x1024 .f32 := addf main_v51 main_v55
  let main_v57 : FVec F S16384x1024 .f32 := Host.negf main_v56
  let main_v58 : FVec F S1x16384x1024 .f32 := (extractStridedSlice S1x16384x1024 ![1, 0, 0] · slices_S3x16384x1024_S1x16384x1024_1_0_0) main_arg10
  let main_v59 : FVec F S16384x1024 .f32 := shapeCast S16384x1024 main_v58 shapeCasts_S1x16384x1024_S16384x1024
  fn_part3 (F := F) main_arg2 main_arg4 main_arg6 main_arg8 main_arg9 main_arg10 main_arg11 main_v38 main_v40 main_v42 main_v57 main_v59

def fn_part1 {F : FTy → Type} [FloatOps F] (main_arg2 : FVec F S2048 .f32) (main_arg4 : FVec F S256 .f32) (main_arg6 : FVec F S2048 .f32) (main_arg8 : FVec F S768 .f32) (main_arg9 : FVec F S3x1024x256 .f32) (main_arg10 : FVec F S3x16384x1024 .f32) (main_arg11 : FVec F S_ .f32) (main_v9 : FVec F S16384x256 .f32) (main_v11 : FVec F S1024x256 .f32) (main_v20 : FVec F S16384x1024 .f32) : IVec S2048 1 × IVec S256 1 × IVec S2048 1 × IVec S768 1 × IVec S_ 1 × IVec S_ 1 × IVec S3x1024x256 1 × IVec S3x16384x1024 1 × IVec S16384 1 × IVec S16384 1 × IVec S16384 1 :=
  let main_v21 : FVec F S1024x256 .f32 := mulf main_v11 main_v11
  let main_cst_2 : FVec F S_ .f32 := constant S_ .f32 0x00000000#32
  let main_v22 : FVec F S1024 .f32 := (fun x v => Host.reduceAdd x v reducesTo_S1024x256_S1024_d1 h_S_) main_v21 main_cst_2
  let main_v23 : FVec F S1x1024 .f32 := broadcastInDim S1x1024 ![1] bcast_S1024_S1x1024_1 main_v22
  let main_v24 : FVec F S16384x1024 .f32 := broadcastInDim S16384x1024 ![0, 1] bcast_S1x1024_S16384x1024_0_1 main_v23
  let main_v25 : FVec F S16384x1024 .f32 := addf main_v20 main_v24
  let main_v26 : FVec F S16384x1024 .f32 := Host.negf main_v25
  let main_v27 : FVec F S1x16384x1024 .f32 := (extractStridedSlice S1x16384x1024 ![0, 0, 0] · slices_S3x16384x1024_S1x16384x1024_0_0_0) main_arg10
  let main_v28 : FVec F S16384x1024 .f32 := shapeCast S16384x1024 main_v27 shapeCasts_S1x16384x1024_S16384x1024
  let main_v29 : FVec F S16384x1024 .f32 := addf main_v26 main_v28
  let main_cst_3 : FVec F S_ .f32 := constant S_ .f32 0xFF800000#32
  let main_v30 : FVec F S16384 .f32 := (fun x v => Host.reduce FloatOps.maximumf x v reducesTo_S16384x1024_S16384_d1 h_S_) main_v29 main_cst_3
  let main_v31 : FVec F S16384x1 .f32 := broadcastInDim S16384x1 ![0] bcast_S16384_S16384x1_0 main_v30
  let main_v32 : FVec F S16384x1024 .f32 := broadcastInDim S16384x1024 ![0, 1] bcast_S16384x1_S16384x1024_0_1 main_v31
  let main_v33 : IVec S16384x1024 1 := cmpf .oeq main_v29 main_v32
  let main_cst_4 : FVec F S_ .f32 := constant S_ .f32 0x3F800000#32
  let main_cst_5 : FVec F S_ .f32 := constant S_ .f32 0x00000000#32
  let main_v34 : FVec F S16384x1024 .f32 := fn_where (F := F) main_v33 main_cst_4 main_cst_5
  let main_v35 : FVec F S16384x1024 .f32 := id main_v34
  let main_cst_6 : FVec F S_ .f32 := constant S_ .f32 0x00000000#32
  let main_v36 : FVec F S16384 .f32 := (fun x v => Host.reduceAdd x v reducesTo_S16384x1024_S16384_d1 h_S_) main_v35 main_cst_6
  let main_cst_7 : FVec F S_ .f32 := constant S_ .f32 0x3F800000#32
  let main_v37 : FVec F S16384 .f32 := broadcastInDim S16384 ![] bcast_S_S16384 main_cst_7
  let main_v38 : IVec S16384 1 := cmpf .oeq main_v36 main_v37
  fn_part2 (F := F) main_arg2 main_arg4 main_arg6 main_arg8 main_arg9 main_arg10 main_arg11 main_v9 main_v11 main_v34 main_v38

def fn {F : FTy → Type} [FloatOps F] (main_arg0 : FVec F S16384x768 .f32) (main_arg1 : FVec F S768x2048 .f32) (main_arg2 : FVec F S2048 .f32) (main_arg3 : FVec F S2048x256 .f32) (main_arg4 : FVec F S256 .f32) (main_arg5 : FVec F S256x2048 .f32) (main_arg6 : FVec F S2048 .f32) (main_arg7 : FVec F S2048x768 .f32) (main_arg8 : FVec F S768 .f32) (main_arg9 : FVec F S3x1024x256 .f32) (main_arg10 : FVec F S3x16384x1024 .f32) (main_arg11 : FVec F S_ .f32) : IVec S2048 1 × IVec S256 1 × IVec S2048 1 × IVec S768 1 × IVec S_ 1 × IVec S_ 1 × IVec S3x1024x256 1 × IVec S3x16384x1024 1 × IVec S16384 1 × IVec S16384 1 × IVec S16384 1 :=
  let main_v0 : FVec F S16384x2048 .f32 := (fun l r => Host.dotGeneral dot_S16384x768_S768x2048_S16384x2048_1_0_0_1_n_n none l r) main_arg0 main_arg1
  let main_v1 : FVec F S1x2048 .f32 := broadcastInDim S1x2048 ![1] bcast_S2048_S1x2048_1 main_arg2
  let main_v2 : FVec F S16384x2048 .f32 := broadcastInDim S16384x2048 ![0, 1] bcast_S1x2048_S16384x2048_0_1 main_v1
  let main_v3 : FVec F S16384x2048 .f32 := addf main_v0 main_v2
  let main_cst : FVec F S_ .f32 := constant S_ .f32 0x00000000#32
  let main_v4 : FVec F S16384x2048 .f32 := broadcastInDim S16384x2048 ![] bcast_S_S16384x2048 main_cst
  let main_v5 : FVec F S16384x2048 .f32 := maximumf main_v3 main_v4
  let main_v6 : FVec F S16384x256 .f32 := (fun l r => Host.dotGeneral dot_S16384x2048_S2048x256_S16384x256_1_0_0_1_n_n none l r) main_v5 main_arg3
  let main_v7 : FVec F S1x256 .f32 := broadcastInDim S1x256 ![1] bcast_S256_S1x256_1 main_arg4
  let main_v8 : FVec F S16384x256 .f32 := broadcastInDim S16384x256 ![0, 1] bcast_S1x256_S16384x256_0_1 main_v7
  let main_v9 : FVec F S16384x256 .f32 := addf main_v6 main_v8
  let main_v10 : FVec F S1x1024x256 .f32 := (extractStridedSlice S1x1024x256 ![0, 0, 0] · slices_S3x1024x256_S1x1024x256_0_0_0) main_arg9
  let main_v11 : FVec F S1024x256 .f32 := shapeCast S1024x256 main_v10 shapeCasts_S1x1024x256_S1024x256
  let main_v12 : FVec F S16384x256 .f32 := mulf main_v9 main_v9
  let main_cst_0 : FVec F S_ .f32 := constant S_ .f32 0x00000000#32
  let main_v13 : FVec F S16384 .f32 := (fun x v => Host.reduceAdd x v reducesTo_S16384x256_S16384_d1 h_S_) main_v12 main_cst_0
  let main_v14 : FVec F S16384x1 .f32 := broadcastInDim S16384x1 ![0] bcast_S16384_S16384x1_0 main_v13
  let main_v15 : FVec F S256x1024 .f32 := (transpose S256x1024 [1, 0] · transposes_S1024x256_S256x1024_1_0) main_v11
  let main_v16 : FVec F S16384x1024 .f32 := (fun l r => Host.dotGeneral dot_S16384x256_S256x1024_S16384x1024_1_0_0_1_n_n none l r) main_v9 main_v15
  let main_cst_1 : FVec F S_ .f32 := constant S_ .f32 0x40000000#32
  let main_v17 : FVec F S16384x1024 .f32 := broadcastInDim S16384x1024 ![] bcast_S_S16384x1024 main_cst_1
  let main_v18 : FVec F S16384x1024 .f32 := mulf main_v17 main_v16
  let main_v19 : FVec F S16384x1024 .f32 := broadcastInDim S16384x1024 ![0, 1] bcast_S16384x1_S16384x1024_0_1 main_v14
  let main_v20 : FVec F S16384x1024 .f32 := subf main_v19 main_v18
  fn_part1 (F := F) main_arg2 main_arg4 main_arg6 main_arg8 main_arg9 main_arg10 main_arg11 main_v9 main_v11 main_v20
-- ==== Kernel.lean ====
abbrev S16384x768 : Shape := ⟨2, ![16384, 768]⟩
abbrev S768x2048 : Shape := ⟨2, ![768, 2048]⟩
abbrev S2048 : Shape := ⟨1, ![2048]⟩
abbrev S2048x256 : Shape := ⟨2, ![2048, 256]⟩
abbrev S256 : Shape := ⟨1, ![256]⟩
abbrev S256x2048 : Shape := ⟨2, ![256, 2048]⟩
abbrev S2048x768 : Shape := ⟨2, ![2048, 768]⟩
abbrev S768 : Shape := ⟨1, ![768]⟩
abbrev S3x1024x256 : Shape := ⟨3, ![3, 1024, 256]⟩
abbrev S3x16384x1024 : Shape := ⟨3, ![3, 16384, 1024]⟩
abbrev S_ : Shape := ⟨0, ![]⟩
abbrev S1x1 : Shape := ⟨2, ![1, 1]⟩
abbrev S1024x768 : Shape := ⟨2, ![1024, 768]⟩
abbrev S3x1024x1024 : Shape := ⟨3, ![3, 1024, 1024]⟩
abbrev S3x1024 : Shape := ⟨2, ![3, 1024]⟩
abbrev S512x768 : Shape := ⟨2, ![512, 768]⟩
abbrev S512x2048 : Shape := ⟨2, ![512, 2048]⟩
abbrev S512x256 : Shape := ⟨2, ![512, 256]⟩
abbrev S1x1024x256 : Shape := ⟨3, ![1, 1024, 256]⟩
abbrev S1024x256 : Shape := ⟨2, ![1024, 256]⟩
abbrev S512x1024 : Shape := ⟨2, ![512, 1024]⟩
abbrev S1x512x1024 : Shape := ⟨3, ![1, 512, 1024]⟩
abbrev S1x1024 : Shape := ⟨2, ![1, 1024]⟩
abbrev S1024 : Shape := ⟨1, ![1024]⟩
abbrev S512 : Shape := ⟨1, ![512]⟩
abbrev S512x1 : Shape := ⟨2, ![512, 1]⟩
abbrev S1x512x256 : Shape := ⟨3, ![1, 512, 256]⟩
abbrev S1 : Shape := ⟨1, ![1]⟩
abbrev S1x1x1 : Shape := ⟨3, ![1, 1, 1]⟩
abbrev S1x512x768 : Shape := ⟨3, ![1, 512, 768]⟩

abbrev nBuf : Space → Nat
  | .hbm => 21
  | .vmem => 11
  | .smem => 0
  | _ => 0

abbrev bufTy : (tb : Table) → Fin (tcTables nBuf tb) → BufTy
  | .hbm, ⟨0, _⟩ => ⟨S16384x768, .f32⟩
  | .hbm, ⟨1, _⟩ => ⟨S768x2048, .f32⟩
  | .hbm, ⟨2, _⟩ => ⟨S2048, .f32⟩
  | .hbm, ⟨3, _⟩ => ⟨S2048x256, .f32⟩
  | .hbm, ⟨4, _⟩ => ⟨S256, .f32⟩
  | .hbm, ⟨5, _⟩ => ⟨S256x2048, .f32⟩
  | .hbm, ⟨6, _⟩ => ⟨S2048, .f32⟩
  | .hbm, ⟨7, _⟩ => ⟨S2048x768, .f32⟩
  | .hbm, ⟨8, _⟩ => ⟨S768, .f32⟩
  | .hbm, ⟨9, _⟩ => ⟨S3x1024x256, .f32⟩
  | .hbm, ⟨10, _⟩ => ⟨S3x16384x1024, .f32⟩
  | .hbm, ⟨11, _⟩ => ⟨S_, .f32⟩
  | .hbm, ⟨12, _⟩ => ⟨S768x2048, .bf16⟩
  | .hbm, ⟨13, _⟩ => ⟨S2048x256, .bf16⟩
  | .hbm, ⟨14, _⟩ => ⟨S256x2048, .bf16⟩
  | .hbm, ⟨15, _⟩ => ⟨S2048x768, .bf16⟩
  | .hbm, ⟨16, _⟩ => ⟨S3x1024x256, .bf16⟩
  | .hbm, ⟨17, _⟩ => ⟨S1x1, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x768, .f32⟩
  | .local _ .vmem, ⟨1, _⟩ => ⟨S1024x768, .f32⟩
  | .local _ .vmem, ⟨2, _⟩ => ⟨S768x2048, .bf16⟩
  | .local _ .vmem, ⟨3, _⟩ => ⟨S2048x256, .bf16⟩
  | .local _ .vmem, ⟨4, _⟩ => ⟨S256x2048, .bf16⟩
  | .local _ .vmem, ⟨5, _⟩ => ⟨S2048x768, .bf16⟩
  | .local _ .vmem, ⟨6, _⟩ => ⟨S3x1024x256, .bf16⟩
  | .local _ .vmem, ⟨7, _⟩ => ⟨S3x1024x1024, .f32⟩
  | .local _ .vmem, ⟨8, _⟩ => ⟨S3x1024x1024, .f32⟩
  | .local _ .vmem, ⟨9, _⟩ => ⟨S1x1, .f32⟩
  | .local _ .vmem, ⟨10, _⟩ => ⟨S3x1024, .f32⟩
  | _, _ => ⟨S16384x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_cst : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S3x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S16384x768 : Shape := ⟨2, ![16384, 768]⟩
abbrev S768x2048 : Shape := ⟨2, ![768, 2048]⟩
abbrev S2048 : Shape := ⟨1, ![2048]⟩
abbrev S2048x256 : Shape := ⟨2, ![2048, 256]⟩
abbrev S256 : Shape := ⟨1, ![256]⟩
abbrev S256x2048 : Shape := ⟨2, ![256, 2048]⟩
abbrev S2048x768 : Shape := ⟨2, ![2048, 768]⟩
abbrev S768 : Shape := ⟨1, ![768]⟩
abbrev S3x1024x256 : Shape := ⟨3, ![3, 1024, 256]⟩
abbrev S3x16384x1024 : Shape := ⟨3, ![3, 16384, 1024]⟩
abbrev S_ : Shape := ⟨0, ![]⟩
abbrev S16384x2048 : Shape := ⟨2, ![16384, 2048]⟩
abbrev S1x2048 : Shape := ⟨2, ![1, 2048]⟩
abbrev S16384x256 : Shape := ⟨2, ![16384, 256]⟩
abbrev S1x256 : Shape := ⟨2, ![1, 256]⟩
abbrev S1x1024x256 : Shape := ⟨3, ![1, 1024, 256]⟩
abbrev S1024x256 : Shape := ⟨2, ![1024, 256]⟩
abbrev S1x16384x1024 : Shape := ⟨3, ![1, 16384, 1024]⟩
abbrev S16384x1024 : Shape := ⟨2, ![16384, 1024]⟩
abbrev S16384 : Shape := ⟨1, ![16384]⟩
abbrev S16384x1 : Shape := ⟨2, ![16384, 1]⟩
abbrev S256x1024 : Shape := ⟨2, ![256, 1024]⟩
abbrev S1024 : Shape := ⟨1, ![1024]⟩
abbrev S1x1024 : Shape := ⟨2, ![1, 1024]⟩
abbrev S16384x256x1 : Shape := ⟨3, ![16384, 256, 1]⟩
abbrev S16384x256x3 : Shape := ⟨3, ![16384, 256, 3]⟩
abbrev S1x768 : Shape := ⟨2, ![1, 768]⟩

abbrev nBuf : Space → Nat
  | .hbm => 225
  | .vmem => 0
  | .smem => 0
  | _ => 0

abbrev hbmTy0_0 (i : Nat) : BufTy := match i % 128 with
  | 0 => ⟨S16384x768, .f32⟩
  | 1 => ⟨S768x2048, .f32⟩
  | 2 => ⟨S2048, .f32⟩
  | 3 => ⟨S2048x256, .f32⟩
  | 4 => ⟨S256, .f32⟩
  | 5 => ⟨S256x2048, .f32⟩
  | 6 => ⟨S2048, .f32⟩
  | 7 => ⟨S2048x768, .f32⟩
  | 8 => ⟨S768, .f32⟩
  | 9 => ⟨S3x1024x256, .f32⟩
  | 10 => ⟨S3x16384x1024, .f32⟩
  | 11 => ⟨S_, .f32⟩
  | 12 => ⟨S16384x2048, .f32⟩
  | 13 => ⟨S1x2048, .f32⟩
  | 14 => ⟨S16384x2048, .f32⟩
  | 15 => ⟨S16384x2048, .f32⟩
  | 16 => ⟨S_, .f32⟩
  | 17 => ⟨S16384x2048, .f32⟩
  | 18 => ⟨S16384x2048, .f32⟩
  | 19 => ⟨S16384x256, .f32⟩
  | 20 => ⟨S1x256, .f32⟩
  | 21 => ⟨S16384x256, .f32⟩
  | 22 => ⟨S16384x256, .f32⟩
  | 23 => ⟨S1x1024x256, .f32⟩
  | 24 => ⟨S1024x256, .f32⟩
  | 25 => ⟨S1x16384x1024, .f32⟩
  | 26 => ⟨S16384x1024, .f32⟩
  | 27 => ⟨S16384x256, .f32⟩
  | 28 => ⟨S_, .f32⟩
  | 29 => ⟨S16384, .f32⟩
  | 30 => ⟨S16384x1, .f32⟩
  | 31 => ⟨S256x1024, .f32⟩
  | 32 => ⟨S16384x1024, .f32⟩
  | 33 => ⟨S_, .f32⟩
  | 34 => ⟨S16384x1024, .f32⟩
  | 35 => ⟨S16384x1024, .f32⟩
  | 36 => ⟨S16384x1024, .f32⟩
  | 37 => ⟨S16384x1024, .f32⟩
  | 38 => ⟨S1024x256, .f32⟩
  | 39 => ⟨S_, .f32⟩
  | 40 => ⟨S1024, .f32⟩
  | 41 => ⟨S1x1024, .f32⟩
  | 42 => ⟨S16384x1024, .f32⟩
  | 43 => ⟨S16384x1024, .f32⟩
  | 44 => ⟨S16384x1024, .f32⟩
  | 45 => ⟨S16384x1024, .f32⟩
  | 46 => ⟨S16384x1024, .f32⟩
  | 47 => ⟨S16384x1024, .f32⟩
  | 48 => ⟨S_, .f32⟩
  | 49 => ⟨S16384, .f32⟩
  | 50 => ⟨S_, .f32⟩
  | 51 => ⟨S16384, .f32⟩
  | 52 => ⟨S16384, .f32⟩
  | 53 => ⟨S16384x1, .f32⟩
  | 54 => ⟨S16384x1024, .f32⟩
  | 55 => ⟨S16384x1024, .f32⟩
  | 56 => ⟨S16384x1024, .f32⟩
  | 57 => ⟨S_, .f32⟩
  | 58 => ⟨S16384, .f32⟩
  | 59 => ⟨S16384x1, .f32⟩
  | 60 => ⟨S16384x1024, .f32⟩
  | 61 => ⟨S16384x1024, .f32⟩
  | 62 => ⟨S16384x1024, .i32⟩
  | 63 => ⟨S_, .f32⟩
  | 64 => ⟨S_, .i32⟩
  | 65 => ⟨S16384, .f32⟩
  | 66 => ⟨S16384, .i32⟩
  | 67 => ⟨S16384x1, .i32⟩
  | 68 => ⟨S1x1024, .i32⟩
  | 69 => ⟨S16384x1024, .i32⟩
  | 70 => ⟨S16384x1024, .i32⟩
  | 71 => ⟨S16384x1024, .i1⟩
  | 72 => ⟨S16384x1024, .f32⟩
  | 73 => ⟨S16384x1024, .f32⟩
  | 74 => ⟨S16384x1024, .f32⟩
  | 75 => ⟨S16384x256, .f32⟩
  | 76 => ⟨S16384x256, .f32⟩
  | 77 => ⟨S1x1024x256, .f32⟩
  | 78 => ⟨S1024x256, .f32⟩
  | 79 => ⟨S1x16384x1024, .f32⟩
  | 80 => ⟨S16384x1024, .f32⟩
  | 81 => ⟨S16384x256, .f32⟩
  | 82 => ⟨S_, .f32⟩
  | 83 => ⟨S16384, .f32⟩
  | 84 => ⟨S16384x1, .f32⟩
  | 85 => ⟨S256x1024, .f32⟩
  | 86 => ⟨S16384x1024, .f32⟩
  | 87 => ⟨S_, .f32⟩
  | 88 => ⟨S16384x1024, .f32⟩
  | 89 => ⟨S16384x1024, .f32⟩
  | 90 => ⟨S16384x1024, .f32⟩
  | 91 => ⟨S16384x1024, .f32⟩
  | 92 => ⟨S1024x256, .f32⟩
  | 93 => ⟨S_, .f32⟩
  | 94 => ⟨S1024, .f32⟩
  | 95 => ⟨S1x1024, .f32⟩
  | 96 => ⟨S16384x1024, .f32⟩
  | 97 => ⟨S16384x1024, .f32⟩
  | 98 => ⟨S16384x1024, .f32⟩
  | 99 => ⟨S16384x1024, .f32⟩
  | 100 => ⟨S16384x1024, .f32⟩
  | 101 => ⟨S16384x1024, .f32⟩
  | 102 => ⟨S_, .f32⟩
  | 103 => ⟨S16384, .f32⟩
  | 104 => ⟨S_, .f32⟩
  | 105 => ⟨S16384, .f32⟩
  | 106 => ⟨S16384, .f32⟩
  | 107 => ⟨S16384x1, .f32⟩
  | 108 => ⟨S16384x1024, .f32⟩
  | 109 => ⟨S16384x1024, .f32⟩
  | 110 => ⟨S16384x1024, .f32⟩
  | 111 => ⟨S_, .f32⟩
  | 112 => ⟨S16384, .f32⟩
  | 113 => ⟨S16384x1, .f32⟩
  | 114 => ⟨S16384x1024, .f32⟩
  | 115 => ⟨S16384x1024, .f32⟩
  | 116 => ⟨S16384x1024, .i32⟩
  | 117 => ⟨S_, .f32⟩
  | 118 => ⟨S_, .i32⟩
  | 119 => ⟨S16384, .f32⟩
  | 120 => ⟨S16384, .i32⟩
  | 121 => ⟨S16384x1, .i32⟩
  | 122 => ⟨S1x1024, .i32⟩
  | 123 => ⟨S16384x1024, .i32⟩
  | 124 => ⟨S16384x1024, .i32⟩
  | 125 => ⟨S16384x1024, .i1⟩
  | 126 => ⟨S16384x1024, .f32⟩
  | 127 => ⟨S16384x1024, .f32⟩
  | _ => ⟨S16384x768, .f32⟩

abbrev hbmTy0_1 (i : Nat) : BufTy := match i % 128 with
  | 0 => ⟨S16384x1024, .f32⟩
  | 1 => ⟨S16384x256, .f32⟩
  | 2 => ⟨S16384x256, .f32⟩
  | 3 => ⟨S1x1024x256, .f32⟩
  | 4 => ⟨S1024x256, .f32⟩
  | 5 => ⟨S1x16384x1024, .f32⟩
  | 6 => ⟨S16384x1024, .f32⟩
  | 7 => ⟨S16384x256, .f32⟩
  | 8 => ⟨S_, .f32⟩
  | 9 => ⟨S16384, .f32⟩
  | 10 => ⟨S16384x1, .f32⟩
  | 11 => ⟨S256x1024, .f32⟩
  | 12 => ⟨S16384x1024, .f32⟩
  | 13 => ⟨S_, .f32⟩
  | 14 => ⟨S16384x1024, .f32⟩
  | 15 => ⟨S16384x1024, .f32⟩
  | 16 => ⟨S16384x1024, .f32⟩
  | 17 => ⟨S16384x1024, .f32⟩
  | 18 => ⟨S1024x256, .f32⟩
  | 19 => ⟨S_, .f32⟩
  | 20 => ⟨S1024, .f32⟩
  | 21 => ⟨S1x1024, .f32⟩
  | 22 => ⟨S16384x1024, .f32⟩
  | 23 => ⟨S16384x1024, .f32⟩
  | 24 => ⟨S16384x1024, .f32⟩
  | 25 => ⟨S16384x1024, .f32⟩
  | 26 => ⟨S16384x1024, .f32⟩
  | 27 => ⟨S16384x1024, .f32⟩
  | 28 => ⟨S_, .f32⟩
  | 29 => ⟨S16384, .f32⟩
  | 30 => ⟨S_, .f32⟩
  | 31 => ⟨S16384, .f32⟩
  | 32 => ⟨S16384, .f32⟩
  | 33 => ⟨S16384x1, .f32⟩
  | 34 => ⟨S16384x1024, .f32⟩
  | 35 => ⟨S16384x1024, .f32⟩
  | 36 => ⟨S16384x1024, .f32⟩
  | 37 => ⟨S_, .f32⟩
  | 38 => ⟨S16384, .f32⟩
  | 39 => ⟨S16384x1, .f32⟩
  | 40 => ⟨S16384x1024, .f32⟩
  | 41 => ⟨S16384x1024, .f32⟩
  | 42 => ⟨S16384x1024, .i32⟩
  | 43 => ⟨S_, .f32⟩
  | 44 => ⟨S_, .i32⟩
  | 45 => ⟨S16384, .f32⟩
  | 46 => ⟨S16384, .i32⟩
  | 47 => ⟨S16384x1, .i32⟩
  | 48 => ⟨S1x1024, .i32⟩
  | 49 => ⟨S16384x1024, .i32⟩
  | 50 => ⟨S16384x1024, .i32⟩
  | 51 => ⟨S16384x1024, .i1⟩
  | 52 => ⟨S16384x1024, .f32⟩
  | 53 => ⟨S16384x1024, .f32⟩
  | 54 => ⟨S16384x1024, .f32⟩
  | 55 => ⟨S16384x256, .f32⟩
  | 56 => ⟨S16384x256, .f32⟩
  | 57 => ⟨S16384x256x1, .f32⟩
  | 58 => ⟨S16384x256x1, .f32⟩
  | 59 => ⟨S16384x256x1, .f32⟩
  | 60 => ⟨S16384x256x3, .f32⟩
  | 61 => ⟨S16384x256x1, .f32⟩
  | 62 => ⟨S16384x256x1, .f32⟩
  | 63 => ⟨S16384x256x1, .f32⟩
  | 64 => ⟨S16384x256x3, .f32⟩
  | 65 => ⟨S_, .f32⟩
  | 66 => ⟨S16384x256, .f32⟩
  | 67 => ⟨S16384x2048, .f32⟩
  | 68 => ⟨S1x2048, .f32⟩
  | 69 => ⟨S16384x2048, .f32⟩
  | 70 => ⟨S16384x2048, .f32⟩
  | 71 => ⟨S_, .f32⟩
  | 72 => ⟨S16384x2048, .f32⟩
  | 73 => ⟨S16384x2048, .f32⟩
  | 74 => ⟨S16384x768, .f32⟩
  | 75 => ⟨S1x768, .f32⟩
  | 76 => ⟨S16384x768, .f32⟩
  | 77 => ⟨S16384x768, .f32⟩
  | 78 => ⟨S16384x768, .f32⟩
  | 79 => ⟨S16384x768, .f32⟩
  | 80 => ⟨S_, .f32⟩
  | 81 => ⟨S16384, .f32⟩
  | 82 => ⟨S16384x256x3, .f32⟩
  | 83 => ⟨S16384x256x3, .f32⟩
  | 84 => ⟨S16384x256x3, .f32⟩
  | 85 => ⟨S16384x256x3, .f32⟩
  | 86 => ⟨S_, .f32⟩
  | 87 => ⟨S16384x256x3, .f32⟩
  | 88 => ⟨S16384x256x3, .f32⟩
  | 89 => ⟨S16384x256x3, .f32⟩
  | 90 => ⟨S_, .f32⟩
  | 91 => ⟨S16384, .f32⟩
  | 92 => ⟨S16384, .f32⟩
  | 93 => ⟨S_, .f32⟩
  | 94 => ⟨S_, .f32⟩
  | 95 => ⟨S_, .f32⟩
  | 96 => ⟨S_, .f32⟩
  | _ => ⟨S16384x768, .f32⟩

abbrev hbmTy (i : Nat) : BufTy := match i / 128 with
  | 0 => hbmTy0_0 i
  | 1 => hbmTy0_1 i
  | _ => ⟨S16384x768, .f32⟩

abbrev bufTy : (tb : Table) → Fin (tcTables nBuf tb) → BufTy
  | .hbm, ⟨i, _⟩ => hbmTy i
  | _, _ => ⟨S16384x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_3 : Ref sig .tc := ⟨.hbm, 48, rfl⟩
abbrev main_v32 : Ref sig .tc := ⟨.hbm, 49, rfl⟩
abbrev main_cst_4 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_v0 : Ref sig .tc := ⟨.hbm, 62, rfl⟩
abbrev main_call0_cst : Ref sig .tc := ⟨.hbm, 63, rfl⟩
abbrev main_call0_c : Ref sig .tc := ⟨.hbm, 64, rfl⟩
abbrev main_call0_v1_0 : Ref sig .tc := ⟨.hbm, 65, rfl⟩
abbrev main_v43 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_6 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_7 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_8 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_9 : Ref sig .tc := ⟨.hbm, 102, rfl⟩
abbrev main_v71 : Ref sig .tc := ⟨.hbm, 103, rfl⟩
abbrev main_cst_10 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_11 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_call2_v0 : Ref sig .tc := ⟨.hbm, 116, rfl⟩
abbrev main_call2_cst : Ref sig .tc := ⟨.hbm, 117, rfl⟩
abbrev main_call2_c : Ref sig .tc := ⟨.hbm, 118, rfl⟩
abbrev main_call2_v1_0 : Ref sig .tc := ⟨.hbm, 119, rfl⟩
abbrev main_v82 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_cst_12 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_cst_13 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_cst_14 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_cst_15 : Ref sig .tc := ⟨.hbm, 156, rfl⟩
abbrev main_v110 : Ref sig .tc := ⟨.hbm, 157, rfl⟩
abbrev main_cst_16 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_17 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_call4_v0 : Ref sig .tc := ⟨.hbm, 170, rfl⟩
abbrev main_call4_cst : Ref sig .tc := ⟨.hbm, 171, rfl⟩
abbrev main_call4_c : Ref sig .tc := ⟨.hbm, 172, rfl⟩
abbrev main_call4_v1_0 : Ref sig .tc := ⟨.hbm, 173, rfl⟩
abbrev main_v121 : Ref sig .tc := ⟨.hbm, 174, rfl⟩
abbrev main_call5_v0 : Ref sig .tc := ⟨.hbm, 175, rfl⟩
abbrev main_call5_v1 : Ref sig .tc := ⟨.hbm, 176, rfl⟩
abbrev main_call5_v2 : Ref sig .tc := ⟨.hbm, 177, rfl⟩
abbrev main_call5_v3 : Ref sig .tc := ⟨.hbm, 178, rfl⟩
abbrev main_call5_v4 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_cst_18 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩
abbrev main_v139 : Ref sig .tc := ⟨.hbm, 198, rfl⟩
abbrev main_cst_19 : Ref sig .tc := ⟨.hbm, 199, rfl⟩
abbrev main_v140 : Ref sig .tc := ⟨.hbm, 200, rfl⟩
abbrev main_v141 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_cst_20 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_cst_21 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_cst_22 : Ref sig .tc := ⟨.hbm, 218, rfl⟩
abbrev main_v156 : Ref sig .tc := ⟨.hbm, 219, rfl⟩
abbrev main_v157 : Ref sig .tc := ⟨.hbm, 220, rfl⟩
abbrev main_cst_23 : Ref sig .tc := ⟨.hbm, 221, rfl⟩
abbrev main_v158 : Ref sig .tc := ⟨.hbm, 222, rfl⟩
abbrev main_cst_24 : Ref sig .tc := ⟨.hbm, 223, rfl⟩
abbrev main_v159 : Ref sig .tc := ⟨.hbm, 224, rfl⟩

abbrev nD : Nat := 1
abbrev τ : Topo := Topo.v7x

variable {F : FTy → Type} [FloatOps F]
-- ==== Proof.Ref.Defs.lean ====
/- What each stage of the reference program computes, as small definitions on whole arrays over any float values:
   the encoder, one layer's scores, its softmax, the embedding it picks, and the mean of the two losses. -/
module

public import proofs.«01_k».proof.Proof.Gen.ReferenceIdeal

@[expose] public section

noncomputable section

namespace Cert.ReferenceIdeal.Stage

open Cert.ReferenceIdeal Cert.ReferenceIdeal.Gen Idealize.ShloMosaic Idealize.ShloMosaic.StableHlo

variable {F : FTy → Type} [FloatOps F]

/-- The encoder: two products with a rectifier between them, a bias after each. -/
def enc (x : FVec F S16384x768 .f32) (w1 : FVec F S768x2048 .f32) (b1 : FVec F S2048 .f32)
    (w2 : FVec F S2048x256 .f32) (b2 : FVec F S256 .f32) : FVec F S16384x256 .f32 :=
  addf (Host.dotGeneral dot_S16384x2048_S2048x256_S16384x256_1_0_0_1_n_n none
      (maximumf (addf (Host.dotGeneral dot_S16384x768_S768x2048_S16384x2048_1_0_0_1_n_n none x w1)
          (broadcastInDim S16384x2048 ![0, 1] bcast_S1x2048_S16384x2048_0_1 (broadcastInDim S1x2048 ![1] bcast_S2048_S1x2048_1 b1)))
        (broadcastInDim S16384x2048 ![] bcast_S_S16384x2048 (constant S_ .f32 0x00000000#32))) w2)
    (broadcastInDim S16384x256 ![0, 1] bcast_S1x256_S16384x256_0_1 (broadcastInDim S1x256 ![1] bcast_S256_S1x256_1 b2))

/-- The codebook of the first layer. -/
def book0 (cb : FVec F S3x1024x256 .f32) : FVec F S1024x256 .f32 :=
  shapeCast _ (extractStridedSlice S1x1024x256 ![0, 0, 0] cb slices_S3x1024x256_S1x1024x256_0_0_0) shapeCasts_S1x1024x256_S1024x256
/-- The codebook of the second layer. -/
def book1 (cb : FVec F S3x1024x256 .f32) : FVec F S1024x256 .f32 :=
  shapeCast _ (extractStridedSlice S1x1024x256 ![1, 0, 0] cb slices_S3x1024x256_S1x1024x256_1_0_0) shapeCasts_S1x1024x256_S1024x256
/-- The codebook of the third layer. -/
def book2 (cb : FVec F S3x1024x256 .f32) : FVec F S1024x256 .f32 :=
  shapeCast _ (extractStridedSlice S1x1024x256 ![2, 0, 0] cb slices_S3x1024x256_S1x1024x256_2_0_0) shapeCasts_S1x1024x256_S1024x256
/-- The noise of the first layer. -/
def noise0 (g : FVec F S3x16384x1024 .f32) : FVec F S16384x1024 .f32 :=
  shapeCast _ (extractStridedSlice S1x16384x1024 ![0, 0, 0] g slices_S3x16384x1024_S1x16384x1024_0_0_0) shapeCasts_S1x16384x1024_S16384x1024
/-- The noise of the second layer. -/
def noise1 (g : FVec F S3x16384x1024 .f32) : FVec F S16384x1024 .f32 :=
  shapeCast _ (extractStridedSlice S1x16384x1024 ![1, 0, 0] g slices_S3x16384x1024_S1x16384x1024_1_0_0) shapeCasts_S1x16384x1024_S16384x1024
/-- The noise of the third layer. -/
def noise2 (g : FVec F S3x16384x1024 .f32) : FVec F S16384x1024 .f32 :=
  shapeCast _ (extractStridedSlice S1x16384x1024 ![2, 0, 0] g slices_S3x16384x1024_S1x16384x1024_2_0_0) shapeCasts_S1x16384x1024_S16384x1024

/-- A layer's perturbed scores: the noise minus the squared distance of each row to each codebook entry. -/
def perturbed (r : FVec F S16384x256 .f32) (cb : FVec F S1024x256 .f32) (g : FVec F S16384x1024 .f32) :
    FVec F S16384x1024 .f32 :=
  addf (Host.negf (addf (subf
      (broadcastInDim S16384x1024 ![0, 1] bcast_S16384x1_S16384x1024_0_1 (broadcastInDim S16384x1 ![0] bcast_S16384_S16384x1_0
        (Host.reduceAdd (mulf r r) (constant S_ .f32 0x00000000#32) reducesTo_S16384x256_S16384_d1 h_S_)))
      (mulf (broadcastInDim S16384x1024 ![] bcast_S_S16384x1024 (constant S_ .f32 0x40000000#32))
        (Host.dotGeneral dot_S16384x256_S256x1024_S16384x1024_1_0_0_1_n_n none r
          (transpose S256x1024 [1, 0] cb transposes_S1024x256_S256x1024_1_0))))
      (broadcastInDim S16384x1024 ![0, 1] bcast_S1x1024_S16384x1024_0_1 (broadcastInDim S1x1024 ![1] bcast_S1024_S1x1024_1
        (Host.reduceAdd (mulf cb cb) (constant S_ .f32 0x00000000#32) reducesTo_S1024x256_S1024_d1 h_S_))))) g

/-- The scores over the temperature. -/
def tempered (s : FVec F S16384x1024 .f32) (tau : FVec F S_ .f32) : FVec F S16384x1024 .f32 :=
  Host.divf s (broadcastInDim S16384x1024 ![] bcast_S_S16384x1024 tau)

/-- The exponentials of a row less its largest entry. -/
def risen (z : FVec F S16384x1024 .f32) : FVec F S16384x1024 .f32 :=
  Host.exp (subf z (broadcastInDim S16384x1024 ![0, 1] bcast_S16384x1_S16384x1024_0_1 (broadcastInDim S16384x1 ![0] bcast_S16384_S16384x1_0
    (maximumf (broadcastInDim S16384 ![] bcast_S_S16384 (constant S_ .f32 0xFF800000#32))
      (Host.reduce FloatOps.maximumf z (constant S_ .f32 0xFF800000#32) reducesTo_S16384x1024_S16384_d1 h_S_)))))

/-- The softmax of every row. -/
def soft (z : FVec F S16384x1024 .f32) : FVec F S16384x1024 .f32 :=
  Host.divf (risen z) (broadcastInDim S16384x1024 ![0, 1] bcast_S16384x1_S16384x1024_0_1 (broadcastInDim S16384x1 ![0] bcast_S16384_S16384x1_0
    (Host.reduceAdd (risen z) (constant S_ .f32 0x00000000#32) reducesTo_S16384x1024_S16384_d1 h_S_)))

/-- The place of the first largest entry of every row. -/
def top (y : FVec F S16384x1024 .f32) : IVec S16384 32 :=
  fun j => (Host.argReduce reducer_argmax_f32_i32 y (iotaInDim S16384x1024 32 1) (constant S_ .f32 0xFF800000#32)
    (constantI S_ 32 0#32) reducesTo_S16384x1024_S16384_d1 h_S_ j).2

/-- The indicator of a place per row. -/
def mark (k : IVec S16384 32) : FVec F S16384x1024 .f32 :=
  uitofp .f32 (cmpi .eq
    (broadcastInDim S16384x1024 ![0, 1] bcast_S16384x1_S16384x1024_0_1 (broadcastInDim S16384x1 ![0] bcast_S16384_S16384x1_0 k))
    (broadcastInDim S16384x1024 ![0, 1] bcast_S1x1024_S16384x1024_0_1 (iotaInDim S1x1024 32 1)))

/-- The embedding of a layer: the straight-through weights times the codebook. -/
def pick (y : FVec F S16384x1024 .f32) (cb : FVec F S1024x256 .f32) : FVec F S16384x256 .f32 :=
  Host.dotGeneral dot_S16384x1024_S1024x256_S16384x256_1_0_0_1_n_n none (subf (addf (mark (top y)) y) y) cb

/-- Three arrays side by side along a new last axis, each already of width one there. -/
def stack (a b c : FVec F S16384x256x1 .f32) : FVec F S16384x256x3 .f32 :=
  concatenate S16384x256x3 2 [⟨S16384x256x1, a⟩, ⟨S16384x256x1, b⟩, ⟨S16384x256x1, c⟩] concatenates_S16384x256x1_S16384x256x1_S16384x256x1_S16384x256x3_d2

/-- Three matrices side by side along a new last axis. -/
def stack3 (a b c : FVec F S16384x256 .f32) : FVec F S16384x256x3 .f32 :=
  stack (broadcastInDim S16384x256x1 ![0, 1] bcast_S16384x256_S16384x256x1_0_1 a)
    (broadcastInDim S16384x256x1 ![0, 1] bcast_S16384x256_S16384x256x1_0_1 b)
    (broadcastInDim S16384x256x1 ![0, 1] bcast_S16384x256_S16384x256x1_0_1 c)

/-- The decoder of the embeddings' sum. -/
def dec (e : FVec F S16384x256x3 .f32) (w1 : FVec F S256x2048 .f32) (b1 : FVec F S2048 .f32)
    (w2 : FVec F S2048x768 .f32) (b2 : FVec F S768 .f32) : FVec F S16384x768 .f32 :=
  addf (Host.dotGeneral dot_S16384x2048_S2048x768_S16384x768_1_0_0_1_n_n none
      (maximumf (addf (Host.dotGeneral dot_S16384x256_S256x2048_S16384x2048_1_0_0_1_n_n none
            (Host.reduceAdd e (constant S_ .f32 0x00000000#32) reducesTo_S16384x256x3_S16384x256_d2 h_S_) w1)
          (broadcastInDim S16384x2048 ![0, 1] bcast_S1x2048_S16384x2048_0_1 (broadcastInDim S1x2048 ![1] bcast_S2048_S1x2048_1 b1)))
        (broadcastInDim S16384x2048 ![] bcast_S_S16384x2048 (constant S_ .f32 0x00000000#32))) w2)
    (broadcastInDim S16384x768 ![0, 1] bcast_S1x768_S16384x768_0_1 (broadcastInDim S1x768 ![1] bcast_S768_S1x768_1 b2))

/-- The reconstruction loss of every row. -/
def recon (xh x : FVec F S16384x768 .f32) : FVec F S16384 .f32 :=
  Host.reduceAdd (mulf (subf xh x) (subf xh x)) (constant S_ .f32 0x00000000#32) reducesTo_S16384x768_S16384_d1 h_S_

/-- The quantisation loss of every row. -/
def quant (r e : FVec F S16384x256x3 .f32) : FVec F S16384 .f32 :=
  Host.reduceAdd (addf (mulf (subf r e) (subf r e))
      (mulf (broadcastInDim S16384x256x3 ![] bcast_S_S16384x256x3 (constant S_ .f32 0x3E800000#32)) (mulf (subf r e) (subf r e))))
    (constant S_ .f32 0x00000000#32) reducesTo_S16384x256x3_S16384_d1_2 h_S_

/-- The mean over the rows of the two losses. -/
def mean (a b : FVec F S16384 .f32) : FVec F S_ .f32 :=
  Host.divf (Host.reduceAdd (addf a b) (constant S_ .f32 0x00000000#32) reducesTo_S16384_S_d0 h_S_) (constant S_ .f32 0x46800000#32)

end Cert.ReferenceIdeal.Stage

end
-- ==== Proof.Ref.Ops.lean ====
/- The reference program as lists of its operations, one list per stage, and the equality of the program with their
   sequence. -/
module

public import proofs.«01_k».proof.Proof.Gen.ReferenceIdeal
public import proofs.«01_k».proof.Proof.Ref.Defs
public import Idealize.ShloMosaic.Lib.StableHlo.Run
public import Idealize.ShloMosaic.Lib.Pipeline.Frame

@[expose] public section

set_option maxRecDepth 8192
set_option maxHeartbeats 4000000

noncomputable section

namespace Cert.ReferenceIdeal.Line

open Cert.ReferenceIdeal Cert.ReferenceIdeal.Gen Idealize.ShloMosaic Idealize.ShloMosaic.TcCoe Idealize.SL.Sem Idealize.ShloMosaic.StableHlo
open Cert.ReferenceIdeal.Stage (stack)

variable {F : FTy → Type} [FloatOps F]

/-- The encoder. -/
abbrev enc : List (HloOp τ sig (Elt F)) :=
  [ binary main_arg0 main_arg1 main_v0 ((fun l r => Host.dotGeneral dot_S16384x768_S768x2048_S16384x2048_1_0_0_1_n_n none l r) : (⟨S16384x768, .f32⟩ : BufTy).Contents (Elt F) → (⟨S768x2048, .f32⟩ : BufTy).Contents (Elt F) → (⟨S16384x2048, .f32⟩ : BufTy).Contents (Elt F)),
    unary main_arg2 main_v1 (broadcastInDim S1x2048 ![1] bcast_S2048_S1x2048_1 : (⟨S2048, .f32⟩ : BufTy).Contents (Elt F) → (⟨S1x2048, .f32⟩ : BufTy).Contents (Elt F)),
    unary main_v1 main_v2 (broadcastInDim S16384x2048 ![0, 1] bcast_S1x2048_S16384x2048_0_1 : (⟨S1x2048, .f32⟩ : BufTy).Contents (Elt F) → (⟨S16384x2048, .f32⟩ : BufTy).Contents (Elt F)),
    binary main_v0 main_v2 main_v3 (addf : (⟨S16384x2048, .f32⟩ : BufTy).Contents (Elt F) → (⟨S16384x2048, .f32⟩ : BufTy).Contents (Elt F) → (⟨S16384x2048, .f32⟩ : BufTy).Contents (Elt F)),
    nullary main_cst (constant S_ .f32 0x00000000#32),
    unary main_cst main_v4 (broadcastInDim S16384x2048 ![] bcast_S_S16384x2048 : (⟨S_, .f32⟩ : BufTy).Contents (Elt F) → (⟨S16384x2048, .f32⟩ : BufTy).Contents (Elt F)),
    binary main_v3 main_v4 main_v5 (maximumf : (⟨S16384x2048, .f32⟩ : BufTy).Contents (Elt F) → (⟨S16384x2048, .f32⟩ : BufTy).Contents (Elt F) → (⟨S16384x2048, .f32⟩ : BufTy).Contents (Elt F)),
    binary main_v5 main_arg3 main_v6 ((fun l r => Host.dotGeneral dot_S16384x2048_S2048x256_S16384x256_1_0_0_1_n_n none l r) : (⟨S16384x2048, .f32⟩ : BufTy).Contents (Elt F) → (⟨S2048x256, .f32⟩ : BufTy).Contents (Elt F) → (⟨S16384x256, .f32⟩ : BufTy).Contents (Elt F)),
    unary main_arg4 main_v7 (broadcastInDim S1x256 ![1] bcast_S256_S1x256_1 : (⟨S256, .f32⟩ : BufTy).Contents (Elt F) → (⟨S1x256, .f32⟩ : BufTy).Contents (Elt F)),
    unary main_v7 main_v8 (broadcastInDim S16384x256 ![0, 1] bcast_S1x256_S16384x256_0_1 : (⟨S1x256, .f32⟩ : BufTy).Contents (Elt F) → (⟨S16384x256, .f32⟩ : BufTy).Contents (Elt F)),
    binary main_v6 main_v8 main_v9 (addf : (⟨S16384x256, .f32⟩ : BufTy).Contents (Elt F) → (⟨S16384x256, .f32⟩ : BufTy).Contents (Elt F) → (⟨S16384x256, .f32⟩ : BufTy).Contents (Elt F)) ]

theorem enc_sub : (enc : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

theorem enc_fresh : (enc : List (HloOp τ sig (Elt F))).Forall fun op => op.fresh = ∅ :=
  ⟨rfl, rfl, rfl, rfl, rfl, rfl, rfl, rfl, rfl, rfl, rfl⟩

/-- Layer 0: the perturbed scores over the temperature. -/
abbrev sco0 : List (HloOp τ sig (Elt F)) :=
  [ unary main_arg9 main_v10 ((extractStridedSlice S1x1024x256 ![0, 0, 0] · slices_S3x1024x256_S1x1024x256_0_0_0) : (⟨S3x1024x256, .f32⟩ : BufTy).Contents (Elt F) → (⟨S1x1024x256, .f32⟩ : BufTy).Contents (Elt F)),
    reshape main_v10 main_v11 (rfl : (.f32 : EltTy) = .f32) shapeCasts_S1x1024x256_S1024x256,
    unary main_arg10 main_v12 ((extractStridedSlice S1x16384x1024 ![0, 0, 0] · slices_S3x16384x1024_S1x16384x1024_0_0_0) : (⟨S3x16384x1024, .f32⟩ : BufTy).Contents (Elt F) → (⟨S1x16384x1024, .f32⟩ : BufTy).Contents (Elt F)),
    reshape main_v12 main_v13 (rfl : (.f32 : EltTy) = .f32) shapeCasts_S1x16384x1024_S16384x1024,
    binary main_v9 main_v9 main_v14 (mulf : (⟨S16384x256, .f32⟩ : BufTy).Contents (Elt F) → (⟨S16384x256, .f32⟩ : BufTy).Contents (Elt F) → (⟨S16384x256, .f32⟩ : BufTy).Contents (Elt F)),
    nullary main_cst_0 (constant S_ .f32 0x00000000#32),
    binary main_v14 main_cst_0 main_v15 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v15 main_v16 (broadcastInDim S16384x1 ![0] bcast_S16384_S16384x1_0 : (⟨S16384, .f32⟩ : BufTy).Contents (Elt F) → (⟨S16384x1, .f32⟩ : BufTy).Contents (Elt F)),
    unary main_v11 main_v17 ((transpose S256x1024 [1, 0] · transposes_S1024x256_S256x1024_1_0) : (⟨S1024x256, .f32⟩ : BufTy).Contents (Elt F) → (⟨S256x1024, .f32⟩ : BufTy).Contents (Elt F)),
    binary main_v9 main_v17 main_v18 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    nullary main_cst_1 (constant S_ .f32 0x40000000#32),
    unary main_cst_1 main_v19 (broadcastInDim S16384x1024 ![] bcast_S_S16384x1024 : (⟨S_, .f32⟩ : BufTy).Contents (Elt F) → (⟨S16384x1024, .f32⟩ : BufTy).Contents (Elt F)),
    binary main_v19 main_v18 main_v20 (mulf : (⟨S16384x1024, .f32⟩ : BufTy).Contents (Elt F) → (⟨S16384x1024, .f32⟩ : BufTy).Contents (Elt F) → (⟨S16384x1024, .f32⟩ : BufTy).Contents (Elt F)),
    unary main_v16 main_v21 (broadcastInDim S16384x1024 ![0, 1] bcast_S16384x1_S16384x1024_0_1 : (⟨S16384x1, .f32⟩ : BufTy).Contents (Elt F) → (⟨S16384x1024, .f32⟩ : BufTy).Contents (Elt F)),
    binary main_v21 main_v20 main_v22 (subf : (⟨S16384x1024, .f32⟩ : BufTy).Contents (Elt F) → (⟨S16384x1024, .f32⟩ : BufTy).Contents (Elt F) → (⟨S16384x1024, .f32⟩ : BufTy).Contents (Elt F)),
    binary main_v11 main_v11 main_v23 (mulf : (⟨S1024x256, .f32⟩ : BufTy).Contents (Elt F) → (⟨S1024x256, .f32⟩ : BufTy).Contents (Elt F) → (⟨S1024x256, .f32⟩ : BufTy).Contents (Elt F)),
    nullary main_cst_2 (constant S_ .f32 0x00000000#32),
    binary main_v23 main_cst_2 main_v24 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v24 main_v25 (broadcastInDim S1x1024 ![1] bcast_S1024_S1x1024_1 : (⟨S1024, .f32⟩ : BufTy).Contents (Elt F) → (⟨S1x1024, .f32⟩ : BufTy).Contents (Elt F)),
    unary main_v25 main_v26 (broadcastInDim S16384x1024 ![0, 1] bcast_S1x1024_S16384x1024_0_1 : (⟨S1x1024, .f32⟩ : BufTy).Contents (Elt F) → (⟨S16384x1024, .f32⟩ : BufTy).Contents (Elt F)),
    binary main_v22 main_v26 main_v27 (addf : (⟨S16384x1024, .f32⟩ : BufTy).Contents (Elt F) → (⟨S16384x1024, .f32⟩ : BufTy).Contents (Elt F) → (⟨S16384x1024, .f32⟩ : BufTy).Contents (Elt F)),
    unary main_v27 main_v28 (Host.negf : (⟨S16384x1024, .f32⟩ : BufTy).Contents (Elt F) → (⟨S16384x1024, .f32⟩ : BufTy).Contents (Elt F)),
    binary main_v28 main_v13 main_v29 (addf : (⟨S16384x1024, .f32⟩ : BufTy).Contents (Elt F) → (⟨S16384x1024, .f32⟩ : BufTy).Contents (Elt F) → (⟨S16384x1024, .f32⟩ : BufTy).Contents (Elt F)),
    unary main_arg11 main_v30 (broadcastInDim S16384x1024 ![] bcast_S_S16384x1024 : (⟨S_, .f32⟩ : BufTy).Contents (Elt F) → (⟨S16384x1024, .f32⟩ : BufTy).Contents (Elt F)),
    binary main_v29 main_v30 main_v31 (Host.divf : (⟨S16384x1024, .f32⟩ : BufTy).Contents (Elt F) → (⟨S16384x1024, .f32⟩ : BufTy).Contents (Elt F) → (⟨S16384x1024, .f32⟩ : BufTy).Contents (Elt F)) ]

theorem sco0_sub : (sco0 : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., unary_bufs_sub .., binary_bufs_sub .., unary_bufs_sub .., binary_bufs_sub ..⟩

theorem sco0_fresh : (sco0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- Layer 0: the softmax of the scores. -/
abbrev soft0 : List (HloOp τ sig (Elt F)) :=
  [ nullary main_cst_3 (constant S_ .f32 0xFF800000#32),
    binary main_v31 main_cst_3 main_v32 ((fun x v => Host.reduce FloatOps.maximumf x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    nullary main_cst_4 (constant S_ .f32 0xFF800000#32),
    unary main_cst_4 main_v33 (broadcastInDim S16384 ![] bcast_S_S16384 : (⟨S_, .f32⟩ : BufTy).Contents (Elt F) → (⟨S16384, .f32⟩ : BufTy).Contents (Elt F)),
    binary main_v33 main_v32 main_v34 (maximumf : (⟨S16384, .f32⟩ : BufTy).Contents (Elt F) → (⟨S16384, .f32⟩ : BufTy).Contents (Elt F) → (⟨S16384, .f32⟩ : BufTy).Contents (Elt F)),
    unary main_v34 main_v35 (broadcastInDim S16384x1 ![0] bcast_S16384_S16384x1_0 : (⟨S16384, .f32⟩ : BufTy).Contents (Elt F) → (⟨S16384x1, .f32⟩ : BufTy).Contents (Elt F)),
    unary main_v35 main_v36 (broadcastInDim S16384x1024 ![0, 1] bcast_S16384x1_S16384x1024_0_1 : (⟨S16384x1, .f32⟩ : BufTy).Contents (Elt F) → (⟨S16384x1024, .f32⟩ : BufTy).Contents (Elt F)),
    binary main_v31 main_v36 main_v37 (subf : (⟨S16384x1024, .f32⟩ : BufTy).Contents (Elt F) → (⟨S16384x1024, .f32⟩ : BufTy).Contents (Elt F) → (⟨S16384x1024, .f32⟩ : BufTy).Contents (Elt F)),
    unary main_v37 main_v38 (Host.exp : (⟨S16384x1024, .f32⟩ : BufTy).Contents (Elt F) → (⟨S16384x1024, .f32⟩ : BufTy).Contents (Elt F)),
    nullary main_cst_5 (constant S_ .f32 0x00000000#32),
    binary main_v38 main_cst_5 main_v39 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v39 main_v40 (broadcastInDim S16384x1 ![0] bcast_S16384_S16384x1_0 : (⟨S16384, .f32⟩ : BufTy).Contents (Elt F) → (⟨S16384x1, .f32⟩ : BufTy).Contents (Elt F)),
    unary main_v40 main_v41 (broadcastInDim S16384x1024 ![0, 1] bcast_S16384x1_S16384x1024_0_1 : (⟨S16384x1, .f32⟩ : BufTy).Contents (Elt F) → (⟨S16384x1024, .f32⟩ : BufTy).Contents (Elt F)),
    binary main_v38 main_v41 main_v42 (Host.divf : (⟨S16384x1024, .f32⟩ : BufTy).Contents (Elt F) → (⟨S16384x1024, .f32⟩ : BufTy).Contents (Elt F) → (⟨S16384x1024, .f32⟩ : BufTy).Contents (Elt F)) ]

theorem soft0_sub : (soft0 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem soft0_fresh : (soft0 : List (HloOp τ sig (Elt F))).Forall fun op => op.fresh = ∅ :=
  ⟨rfl, rfl, rfl, rfl, rfl, rfl, rfl, rfl, rfl, rfl, rfl, rfl, rfl, rfl⟩

/-- Layer 0: the chosen entry, its embedding and the next residual. -/
abbrev pick0 : List (HloOp τ sig (Elt F)) :=
  [ TRef.nullary (TRef.of (T := ⟨S16384x1024, .i32⟩) main_call0_v0) (iotaInDim S16384x1024 32 1),
    TRef.nullary (TRef.of (T := ⟨S_, .f32⟩) main_call0_cst) (constant S_ .f32 0xFF800000#32),
    TRef.nullary (TRef.of (T := ⟨S_, .i32⟩) main_call0_c) (constantI S_ 32 0#32),
    TRef.quaternary (TRef.of (T := ⟨S16384x1024, .f32⟩) main_v42) (TRef.of (T := ⟨S16384x1024, .i32⟩) main_call0_v0) (TRef.of (T := ⟨S_, .f32⟩) main_call0_cst) (TRef.of (T := ⟨S_, .i32⟩) main_call0_c) (TRef.of (T := ⟨S16384, .f32⟩) main_call0_v1_0) (fun x y u v j => (Host.argReduce reducer_argmax_f32_i32 x y u v reducesTo_S16384x1024_S16384_d1 h_S_ j).1),
    TRef.quaternary (TRef.of (T := ⟨S16384x1024, .f32⟩) main_v42) (TRef.of (T := ⟨S16384x1024, .i32⟩) main_call0_v0) (TRef.of (T := ⟨S_, .f32⟩) main_call0_cst) (TRef.of (T := ⟨S_, .i32⟩) main_call0_c) (TRef.of (T := ⟨S16384, .i32⟩) main_v43) (fun x y u v j => (Host.argReduce reducer_argmax_f32_i32 x y u v reducesTo_S16384x1024_S16384_d1 h_S_ j).2),
    TRef.unary (TRef.of (T := ⟨S16384, .i32⟩) main_v43) (TRef.of (T := ⟨S16384x1, .i32⟩) main_call1_v0) (broadcastInDim S16384x1 ![0] bcast_S16384_S16384x1_0),
    TRef.nullary (TRef.of (T := ⟨S1x1024, .i32⟩) main_call1_v1) (iotaInDim S1x1024 32 1),
    TRef.unary (TRef.of (T := ⟨S16384x1, .i32⟩) main_call1_v0) (TRef.of (T := ⟨S16384x1024, .i32⟩) main_call1_v2) (broadcastInDim S16384x1024 ![0, 1] bcast_S16384x1_S16384x1024_0_1),
    TRef.unary (TRef.of (T := ⟨S1x1024, .i32⟩) main_call1_v1) (TRef.of (T := ⟨S16384x1024, .i32⟩) main_call1_v3) (broadcastInDim S16384x1024 ![0, 1] bcast_S1x1024_S16384x1024_0_1),
    TRef.binary (TRef.of (T := ⟨S16384x1024, .i32⟩) main_call1_v2) (TRef.of (T := ⟨S16384x1024, .i32⟩) main_call1_v3) (TRef.of (T := ⟨S16384x1024, .i1⟩) main_call1_v4) (cmpi .eq),
    TRef.unary (TRef.of (T := ⟨S16384x1024, .i1⟩) main_call1_v4) (TRef.of (T := ⟨S16384x1024, .f32⟩) main_v44) (uitofp .f32),
    binary main_v44 main_v42 main_v45 (addf : (⟨S16384x1024, .f32⟩ : BufTy).Contents (Elt F) → (⟨S16384x1024, .f32⟩ : BufTy).Contents (Elt F) → (⟨S16384x1024, .f32⟩ : BufTy).Contents (Elt F)),
    binary main_v45 main_v42 main_v46 (subf : (⟨S16384x1024, .f32⟩ : BufTy).Contents (Elt F) → (⟨S16384x1024, .f32⟩ : BufTy).Contents (Elt F) → (⟨S16384x1024, .f32⟩ : BufTy).Contents (Elt F)),
    binary main_v46 main_v11 main_v47 ((fun l r => Host.dotGeneral dot_S16384x1024_S1024x256_S16384x256_1_0_0_1_n_n none l r) : (⟨S16384x1024, .f32⟩ : BufTy).Contents (Elt F) → (⟨S1024x256, .f32⟩ : BufTy).Contents (Elt F) → (⟨S16384x256, .f32⟩ : BufTy).Contents (Elt F)),
    binary main_v9 main_v47 main_v48 (subf : (⟨S16384x256, .f32⟩ : BufTy).Contents (Elt F) → (⟨S16384x256, .f32⟩ : BufTy).Contents (Elt F) → (⟨S16384x256, .f32⟩ : BufTy).Contents (Elt F)) ]

theorem pick0_sub : (pick0 : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., binary_bufs_sub .., binary_bufs_sub .., binary_bufs_sub ..⟩

theorem pick0_fresh : (pick0 : List (HloOp τ sig (Elt F))).Forall fun op => op.fresh = ∅ :=
  ⟨rfl, rfl, rfl, rfl, rfl, rfl, rfl, rfl, rfl, rfl, rfl, rfl, rfl, rfl, rfl⟩

/-- Layer 1: the perturbed scores over the temperature. -/
abbrev sco1 : List (HloOp τ sig (Elt F)) :=
  [ unary main_arg9 main_v49 ((extractStridedSlice S1x1024x256 ![1, 0, 0] · slices_S3x1024x256_S1x1024x256_1_0_0) : (⟨S3x1024x256, .f32⟩ : BufTy).Contents (Elt F) → (⟨S1x1024x256, .f32⟩ : BufTy).Contents (Elt F)),
    reshape main_v49 main_v50 (rfl : (.f32 : EltTy) = .f32) shapeCasts_S1x1024x256_S1024x256,
    unary main_arg10 main_v51 ((extractStridedSlice S1x16384x1024 ![1, 0, 0] · slices_S3x16384x1024_S1x16384x1024_1_0_0) : (⟨S3x16384x1024, .f32⟩ : BufTy).Contents (Elt F) → (⟨S1x16384x1024, .f32⟩ : BufTy).Contents (Elt F)),
    reshape main_v51 main_v52 (rfl : (.f32 : EltTy) = .f32) shapeCasts_S1x16384x1024_S16384x1024,
    binary main_v48 main_v48 main_v53 (mulf : (⟨S16384x256, .f32⟩ : BufTy).Contents (Elt F) → (⟨S16384x256, .f32⟩ : BufTy).Contents (Elt F) → (⟨S16384x256, .f32⟩ : BufTy).Contents (Elt F)),
    nullary main_cst_6 (constant S_ .f32 0x00000000#32),
    binary main_v53 main_cst_6 main_v54 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v54 main_v55 (broadcastInDim S16384x1 ![0] bcast_S16384_S16384x1_0 : (⟨S16384, .f32⟩ : BufTy).Contents (Elt F) → (⟨S16384x1, .f32⟩ : BufTy).Contents (Elt F)),
    unary main_v50 main_v56 ((transpose S256x1024 [1, 0] · transposes_S1024x256_S256x1024_1_0) : (⟨S1024x256, .f32⟩ : BufTy).Contents (Elt F) → (⟨S256x1024, .f32⟩ : BufTy).Contents (Elt F)),
    binary main_v48 main_v56 main_v57 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    nullary main_cst_7 (constant S_ .f32 0x40000000#32),
    unary main_cst_7 main_v58 (broadcastInDim S16384x1024 ![] bcast_S_S16384x1024 : (⟨S_, .f32⟩ : BufTy).Contents (Elt F) → (⟨S16384x1024, .f32⟩ : BufTy).Contents (Elt F)),
    binary main_v58 main_v57 main_v59 (mulf : (⟨S16384x1024, .f32⟩ : BufTy).Contents (Elt F) → (⟨S16384x1024, .f32⟩ : BufTy).Contents (Elt F) → (⟨S16384x1024, .f32⟩ : BufTy).Contents (Elt F)),
    unary main_v55 main_v60 (broadcastInDim S16384x1024 ![0, 1] bcast_S16384x1_S16384x1024_0_1 : (⟨S16384x1, .f32⟩ : BufTy).Contents (Elt F) → (⟨S16384x1024, .f32⟩ : BufTy).Contents (Elt F)),
    binary main_v60 main_v59 main_v61 (subf : (⟨S16384x1024, .f32⟩ : BufTy).Contents (Elt F) → (⟨S16384x1024, .f32⟩ : BufTy).Contents (Elt F) → (⟨S16384x1024, .f32⟩ : BufTy).Contents (Elt F)),
    binary main_v50 main_v50 main_v62 (mulf : (⟨S1024x256, .f32⟩ : BufTy).Contents (Elt F) → (⟨S1024x256, .f32⟩ : BufTy).Contents (Elt F) → (⟨S1024x256, .f32⟩ : BufTy).Contents (Elt F)),
    nullary main_cst_8 (constant S_ .f32 0x00000000#32),
    binary main_v62 main_cst_8 main_v63 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v63 main_v64 (broadcastInDim S1x1024 ![1] bcast_S1024_S1x1024_1 : (⟨S1024, .f32⟩ : BufTy).Contents (Elt F) → (⟨S1x1024, .f32⟩ : BufTy).Contents (Elt F)),
    unary main_v64 main_v65 (broadcastInDim S16384x1024 ![0, 1] bcast_S1x1024_S16384x1024_0_1 : (⟨S1x1024, .f32⟩ : BufTy).Contents (Elt F) → (⟨S16384x1024, .f32⟩ : BufTy).Contents (Elt F)),
    binary main_v61 main_v65 main_v66 (addf : (⟨S16384x1024, .f32⟩ : BufTy).Contents (Elt F) → (⟨S16384x1024, .f32⟩ : BufTy).Contents (Elt F) → (⟨S16384x1024, .f32⟩ : BufTy).Contents (Elt F)),
    unary main_v66 main_v67 (Host.negf : (⟨S16384x1024, .f32⟩ : BufTy).Contents (Elt F) → (⟨S16384x1024, .f32⟩ : BufTy).Contents (Elt F)),
    binary main_v67 main_v52 main_v68 (addf : (⟨S16384x1024, .f32⟩ : BufTy).Contents (Elt F) → (⟨S16384x1024, .f32⟩ : BufTy).Contents (Elt F) → (⟨S16384x1024, .f32⟩ : BufTy).Contents (Elt F)),
    unary main_arg11 main_v69 (broadcastInDim S16384x1024 ![] bcast_S_S16384x1024 : (⟨S_, .f32⟩ : BufTy).Contents (Elt F) → (⟨S16384x1024, .f32⟩ : BufTy).Contents (Elt F)),
    binary main_v68 main_v69 main_v70 (Host.divf : (⟨S16384x1024, .f32⟩ : BufTy).Contents (Elt F) → (⟨S16384x1024, .f32⟩ : BufTy).Contents (Elt F) → (⟨S16384x1024, .f32⟩ : BufTy).Contents (Elt F)) ]

theorem sco1_sub : (sco1 : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., unary_bufs_sub .., binary_bufs_sub .., unary_bufs_sub .., binary_bufs_sub ..⟩

theorem sco1_fresh : (sco1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- Layer 1: the softmax of the scores. -/
abbrev soft1 : List (HloOp τ sig (Elt F)) :=
  [ nullary main_cst_9 (constant S_ .f32 0xFF800000#32),
    binary main_v70 main_cst_9 main_v71 ((fun x v => Host.reduce FloatOps.maximumf x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    nullary main_cst_10 (constant S_ .f32 0xFF800000#32),
    unary main_cst_10 main_v72 (broadcastInDim S16384 ![] bcast_S_S16384 : (⟨S_, .f32⟩ : BufTy).Contents (Elt F) → (⟨S16384, .f32⟩ : BufTy).Contents (Elt F)),
    binary main_v72 main_v71 main_v73 (maximumf : (⟨S16384, .f32⟩ : BufTy).Contents (Elt F) → (⟨S16384, .f32⟩ : BufTy).Contents (Elt F) → (⟨S16384, .f32⟩ : BufTy).Contents (Elt F)),
    unary main_v73 main_v74 (broadcastInDim S16384x1 ![0] bcast_S16384_S16384x1_0 : (⟨S16384, .f32⟩ : BufTy).Contents (Elt F) → (⟨S16384x1, .f32⟩ : BufTy).Contents (Elt F)),
    unary main_v74 main_v75 (broadcastInDim S16384x1024 ![0, 1] bcast_S16384x1_S16384x1024_0_1 : (⟨S16384x1, .f32⟩ : BufTy).Contents (Elt F) → (⟨S16384x1024, .f32⟩ : BufTy).Contents (Elt F)),
    binary main_v70 main_v75 main_v76 (subf : (⟨S16384x1024, .f32⟩ : BufTy).Contents (Elt F) → (⟨S16384x1024, .f32⟩ : BufTy).Contents (Elt F) → (⟨S16384x1024, .f32⟩ : BufTy).Contents (Elt F)),
    unary main_v76 main_v77 (Host.exp : (⟨S16384x1024, .f32⟩ : BufTy).Contents (Elt F) → (⟨S16384x1024, .f32⟩ : BufTy).Contents (Elt F)),
    nullary main_cst_11 (constant S_ .f32 0x00000000#32),
    binary main_v77 main_cst_11 main_v78 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v78 main_v79 (broadcastInDim S16384x1 ![0] bcast_S16384_S16384x1_0 : (⟨S16384, .f32⟩ : BufTy).Contents (Elt F) → (⟨S16384x1, .f32⟩ : BufTy).Contents (Elt F)),
    unary main_v79 main_v80 (broadcastInDim S16384x1024 ![0, 1] bcast_S16384x1_S16384x1024_0_1 : (⟨S16384x1, .f32⟩ : BufTy).Contents (Elt F) → (⟨S16384x1024, .f32⟩ : BufTy).Contents (Elt F)),
    binary main_v77 main_v80 main_v81 (Host.divf : (⟨S16384x1024, .f32⟩ : BufTy).Contents (Elt F) → (⟨S16384x1024, .f32⟩ : BufTy).Contents (Elt F) → (⟨S16384x1024, .f32⟩ : BufTy).Contents (Elt F)) ]

theorem soft1_sub : (soft1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem soft1_fresh : (soft1 : List (HloOp τ sig (Elt F))).Forall fun op => op.fresh = ∅ :=
  ⟨rfl, rfl, rfl, rfl, rfl, rfl, rfl, rfl, rfl, rfl, rfl, rfl, rfl, rfl⟩

/-- Layer 1: the chosen entry, its embedding and the next residual. -/
abbrev pick1 : List (HloOp τ sig (Elt F)) :=
  [ TRef.nullary (TRef.of (T := ⟨S16384x1024, .i32⟩) main_call2_v0) (iotaInDim S16384x1024 32 1),
    TRef.nullary (TRef.of (T := ⟨S_, .f32⟩) main_call2_cst) (constant S_ .f32 0xFF800000#32),
    TRef.nullary (TRef.of (T := ⟨S_, .i32⟩) main_call2_c) (constantI S_ 32 0#32),
    TRef.quaternary (TRef.of (T := ⟨S16384x1024, .f32⟩) main_v81) (TRef.of (T := ⟨S16384x1024, .i32⟩) main_call2_v0) (TRef.of (T := ⟨S_, .f32⟩) main_call2_cst) (TRef.of (T := ⟨S_, .i32⟩) main_call2_c) (TRef.of (T := ⟨S16384, .f32⟩) main_call2_v1_0) (fun x y u v j => (Host.argReduce reducer_argmax_f32_i32 x y u v reducesTo_S16384x1024_S16384_d1 h_S_ j).1),
    TRef.quaternary (TRef.of (T := ⟨S16384x1024, .f32⟩) main_v81) (TRef.of (T := ⟨S16384x1024, .i32⟩) main_call2_v0) (TRef.of (T := ⟨S_, .f32⟩) main_call2_cst) (TRef.of (T := ⟨S_, .i32⟩) main_call2_c) (TRef.of (T := ⟨S16384, .i32⟩) main_v82) (fun x y u v j => (Host.argReduce reducer_argmax_f32_i32 x y u v reducesTo_S16384x1024_S16384_d1 h_S_ j).2),
    TRef.unary (TRef.of (T := ⟨S16384, .i32⟩) main_v82) (TRef.of (T := ⟨S16384x1, .i32⟩) main_call3_v0) (broadcastInDim S16384x1 ![0] bcast_S16384_S16384x1_0),
    TRef.nullary (TRef.of (T := ⟨S1x1024, .i32⟩) main_call3_v1) (iotaInDim S1x1024 32 1),
    TRef.unary (TRef.of (T := ⟨S16384x1, .i32⟩) main_call3_v0) (TRef.of (T := ⟨S16384x1024, .i32⟩) main_call3_v2) (broadcastInDim S16384x1024 ![0, 1] bcast_S16384x1_S16384x1024_0_1),
    TRef.unary (TRef.of (T := ⟨S1x1024, .i32⟩) main_call3_v1) (TRef.of (T := ⟨S16384x1024, .i32⟩) main_call3_v3) (broadcastInDim S16384x1024 ![0, 1] bcast_S1x1024_S16384x1024_0_1),
    TRef.binary (TRef.of (T := ⟨S16384x1024, .i32⟩) main_call3_v2) (TRef.of (T := ⟨S16384x1024, .i32⟩) main_call3_v3) (TRef.of (T := ⟨S16384x1024, .i1⟩) main_call3_v4) (cmpi .eq),
    TRef.unary (TRef.of (T := ⟨S16384x1024, .i1⟩) main_call3_v4) (TRef.of (T := ⟨S16384x1024, .f32⟩) main_v83) (uitofp .f32),
    binary main_v83 main_v81 main_v84 (addf : (⟨S16384x1024, .f32⟩ : BufTy).Contents (Elt F) → (⟨S16384x1024, .f32⟩ : BufTy).Contents (Elt F) → (⟨S16384x1024, .f32⟩ : BufTy).Contents (Elt F)),
    binary main_v84 main_v81 main_v85 (subf : (⟨S16384x1024, .f32⟩ : BufTy).Contents (Elt F) → (⟨S16384x1024, .f32⟩ : BufTy).Contents (Elt F) → (⟨S16384x1024, .f32⟩ : BufTy).Contents (Elt F)),
    binary main_v85 main_v50 main_v86 ((fun l r => Host.dotGeneral dot_S16384x1024_S1024x256_S16384x256_1_0_0_1_n_n none l r) : (⟨S16384x1024, .f32⟩ : BufTy).Contents (Elt F) → (⟨S1024x256, .f32⟩ : BufTy).Contents (Elt F) → (⟨S16384x256, .f32⟩ : BufTy).Contents (Elt F)),
    binary main_v48 main_v86 main_v87 (subf : (⟨S16384x256, .f32⟩ : BufTy).Contents (Elt F) → (⟨S16384x256, .f32⟩ : BufTy).Contents (Elt F) → (⟨S16384x256, .f32⟩ : BufTy).Contents (Elt F)) ]

theorem pick1_sub : (pick1 : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., binary_bufs_sub .., binary_bufs_sub .., binary_bufs_sub ..⟩

theorem pick1_fresh : (pick1 : List (HloOp τ sig (Elt F))).Forall fun op => op.fresh = ∅ :=
  ⟨rfl, rfl, rfl, rfl, rfl, rfl, rfl, rfl, rfl, rfl, rfl, rfl, rfl, rfl, rfl⟩

/-- Layer 2: the perturbed scores over the temperature. -/
abbrev sco2 : List (HloOp τ sig (Elt F)) :=
  [ unary main_arg9 main_v88 ((extractStridedSlice S1x1024x256 ![2, 0, 0] · slices_S3x1024x256_S1x1024x256_2_0_0) : (⟨S3x1024x256, .f32⟩ : BufTy).Contents (Elt F) → (⟨S1x1024x256, .f32⟩ : BufTy).Contents (Elt F)),
    reshape main_v88 main_v89 (rfl : (.f32 : EltTy) = .f32) shapeCasts_S1x1024x256_S1024x256,
    unary main_arg10 main_v90 ((extractStridedSlice S1x16384x1024 ![2, 0, 0] · slices_S3x16384x1024_S1x16384x1024_2_0_0) : (⟨S3x16384x1024, .f32⟩ : BufTy).Contents (Elt F) → (⟨S1x16384x1024, .f32⟩ : BufTy).Contents (Elt F)),
    reshape main_v90 main_v91 (rfl : (.f32 : EltTy) = .f32) shapeCasts_S1x16384x1024_S16384x1024,
    binary main_v87 main_v87 main_v92 (mulf : (⟨S16384x256, .f32⟩ : BufTy).Contents (Elt F) → (⟨S16384x256, .f32⟩ : BufTy).Contents (Elt F) → (⟨S16384x256, .f32⟩ : BufTy).Contents (Elt F)),
    nullary main_cst_12 (constant S_ .f32 0x00000000#32),
    binary main_v92 main_cst_12 main_v93 ((fun x v => Host.reduceAdd x v reducesTo_S16384x256_S16384_d1 h_S_) : (⟨S16384x256, .f32⟩ : BufTy).Contents (Elt F) → (⟨S_, .f32⟩ : BufTy).Contents (Elt F) → (⟨S16384, .f32⟩ : BufTy).Contents (Elt F)),
    unary main_v93 main_v94 (broadcastInDim S16384x1 ![0] bcast_S16384_S16384x1_0 : (⟨S16384, .f32⟩ : BufTy).Contents (Elt F) → (⟨S16384x1, .f32⟩ : BufTy).Contents (Elt F)),
    unary main_v89 main_v95 ((transpose S256x1024 [1, 0] · transposes_S1024x256_S256x1024_1_0) : (⟨S1024x256, .f32⟩ : BufTy).Contents (Elt F) → (⟨S256x1024, .f32⟩ : BufTy).Contents (Elt F)),
    binary main_v87 main_v95 main_v96 ((fun l r => Host.dotGeneral dot_S16384x256_S256x1024_S16384x1024_1_0_0_1_n_n none l r) : (⟨S16384x256, .f32⟩ : BufTy).Contents (Elt F) → (⟨S256x1024, .f32⟩ : BufTy).Contents (Elt F) → (⟨S16384x1024, .f32⟩ : BufTy).Contents (Elt F)),
    nullary main_cst_13 (constant S_ .f32 0x40000000#32),
    unary main_cst_13 main_v97 (broadcastInDim S16384x1024 ![] bcast_S_S16384x1024 : (⟨S_, .f32⟩ : BufTy).Contents (Elt F) → (⟨S16384x1024, .f32⟩ : BufTy).Contents (Elt F)),
    binary main_v97 main_v96 main_v98 (mulf : (⟨S16384x1024, .f32⟩ : BufTy).Contents (Elt F) → (⟨S16384x1024, .f32⟩ : BufTy).Contents (Elt F) → (⟨S16384x1024, .f32⟩ : BufTy).Contents (Elt F)),
    unary main_v94 main_v99 (broadcastInDim S16384x1024 ![0, 1] bcast_S16384x1_S16384x1024_0_1 : (⟨S16384x1, .f32⟩ : BufTy).Contents (Elt F) → (⟨S16384x1024, .f32⟩ : BufTy).Contents (Elt F)),
    binary main_v99 main_v98 main_v100 (subf : (⟨S16384x1024, .f32⟩ : BufTy).Contents (Elt F) → (⟨S16384x1024, .f32⟩ : BufTy).Contents (Elt F) → (⟨S16384x1024, .f32⟩ : BufTy).Contents (Elt F)),
    binary main_v89 main_v89 main_v101 (mulf : (⟨S1024x256, .f32⟩ : BufTy).Contents (Elt F) → (⟨S1024x256, .f32⟩ : BufTy).Contents (Elt F) → (⟨S1024x256, .f32⟩ : BufTy).Contents (Elt F)),
    nullary main_cst_14 (constant S_ .f32 0x00000000#32),
    binary main_v101 main_cst_14 main_v102 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v102 main_v103 (broadcastInDim S1x1024 ![1] bcast_S1024_S1x1024_1 : (⟨S1024, .f32⟩ : BufTy).Contents (Elt F) → (⟨S1x1024, .f32⟩ : BufTy).Contents (Elt F)),
    unary main_v103 main_v104 (broadcastInDim S16384x1024 ![0, 1] bcast_S1x1024_S16384x1024_0_1 : (⟨S1x1024, .f32⟩ : BufTy).Contents (Elt F) → (⟨S16384x1024, .f32⟩ : BufTy).Contents (Elt F)),
    binary main_v100 main_v104 main_v105 (addf : (⟨S16384x1024, .f32⟩ : BufTy).Contents (Elt F) → (⟨S16384x1024, .f32⟩ : BufTy).Contents (Elt F) → (⟨S16384x1024, .f32⟩ : BufTy).Contents (Elt F)),
    unary main_v105 main_v106 (Host.negf : (⟨S16384x1024, .f32⟩ : BufTy).Contents (Elt F) → (⟨S16384x1024, .f32⟩ : BufTy).Contents (Elt F)),
    binary main_v106 main_v91 main_v107 (addf : (⟨S16384x1024, .f32⟩ : BufTy).Contents (Elt F) → (⟨S16384x1024, .f32⟩ : BufTy).Contents (Elt F) → (⟨S16384x1024, .f32⟩ : BufTy).Contents (Elt F)),
    unary main_arg11 main_v108 (broadcastInDim S16384x1024 ![] bcast_S_S16384x1024 : (⟨S_, .f32⟩ : BufTy).Contents (Elt F) → (⟨S16384x1024, .f32⟩ : BufTy).Contents (Elt F)),
    binary main_v107 main_v108 main_v109 (Host.divf : (⟨S16384x1024, .f32⟩ : BufTy).Contents (Elt F) → (⟨S16384x1024, .f32⟩ : BufTy).Contents (Elt F) → (⟨S16384x1024, .f32⟩ : BufTy).Contents (Elt F)) ]

theorem sco2_sub : (sco2 : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., unary_bufs_sub .., unary_bufs_sub .., binary_bufs_sub .., nullary_bufs_sub .., unary_bufs_sub .., binary_bufs_sub .., unary_bufs_sub .., binary_bufs_sub .., binary_bufs_sub .., nullary_bufs_sub .., binary_bufs_sub .., unary_bufs_sub .., unary_bufs_sub .., binary_bufs_sub .., unary_bufs_sub .., binary_bufs_sub .., unary_bufs_sub .., binary_bufs_sub ..⟩

theorem sco2_fresh : (sco2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

/-- Layer 2: the softmax of the scores. -/
abbrev soft2 : List (HloOp τ sig (Elt F)) :=
  [ nullary main_cst_15 (constant S_ .f32 0xFF800000#32),
    binary main_v109 main_cst_15 main_v110 ((fun x v => Host.reduce FloatOps.maximumf x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    nullary main_cst_16 (constant S_ .f32 0xFF800000#32),
    unary main_cst_16 main_v111 (broadcastInDim S16384 ![] bcast_S_S16384 : (⟨S_, .f32⟩ : BufTy).Contents (Elt F) → (⟨S16384, .f32⟩ : BufTy).Contents (Elt F)),
    binary main_v111 main_v110 main_v112 (maximumf : (⟨S16384, .f32⟩ : BufTy).Contents (Elt F) → (⟨S16384, .f32⟩ : BufTy).Contents (Elt F) → (⟨S16384, .f32⟩ : BufTy).Contents (Elt F)),
    unary main_v112 main_v113 (broadcastInDim S16384x1 ![0] bcast_S16384_S16384x1_0 : (⟨S16384, .f32⟩ : BufTy).Contents (Elt F) → (⟨S16384x1, .f32⟩ : BufTy).Contents (Elt F)),
    unary main_v113 main_v114 (broadcastInDim S16384x1024 ![0, 1] bcast_S16384x1_S16384x1024_0_1 : (⟨S16384x1, .f32⟩ : BufTy).Contents (Elt F) → (⟨S16384x1024, .f32⟩ : BufTy).Contents (Elt F)),
    binary main_v109 main_v114 main_v115 (subf : (⟨S16384x1024, .f32⟩ : BufTy).Contents (Elt F) → (⟨S16384x1024, .f32⟩ : BufTy).Contents (Elt F) → (⟨S16384x1024, .f32⟩ : BufTy).Contents (Elt F)),
    unary main_v115 main_v116 (Host.exp : (⟨S16384x1024, .f32⟩ : BufTy).Contents (Elt F) → (⟨S16384x1024, .f32⟩ : BufTy).Contents (Elt F)),
    nullary main_cst_17 (constant S_ .f32 0x00000000#32),
    binary main_v116 main_cst_17 main_v117 ((fun x v => Host.reduceAdd x v reducesTo_S16384x1024_S16384_d1 h_S_) : (⟨S16384x1024, .f32⟩ : BufTy).Contents (Elt F) → (⟨S_, .f32⟩ : BufTy).Contents (Elt F) → (⟨S16384, .f32⟩ : BufTy).Contents (Elt F)),
    unary main_v117 main_v118 (broadcastInDim S16384x1 ![0] bcast_S16384_S16384x1_0 : (⟨S16384, .f32⟩ : BufTy).Contents (Elt F) → (⟨S16384x1, .f32⟩ : BufTy).Contents (Elt F)),
    unary main_v118 main_v119 (broadcastInDim S16384x1024 ![0, 1] bcast_S16384x1_S16384x1024_0_1 : (⟨S16384x1, .f32⟩ : BufTy).Contents (Elt F) → (⟨S16384x1024, .f32⟩ : BufTy).Contents (Elt F)),
    binary main_v116 main_v119 main_v120 (Host.divf : (⟨S16384x1024, .f32⟩ : BufTy).Contents (Elt F) → (⟨S16384x1024, .f32⟩ : BufTy).Contents (Elt F) → (⟨S16384x1024, .f32⟩ : BufTy).Contents (Elt F)) ]

theorem soft2_sub : (soft2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem soft2_fresh : (soft2 : List (HloOp τ sig (Elt F))).Forall fun op => op.fresh = ∅ :=
  ⟨rfl, rfl, rfl, rfl, rfl, rfl, rfl, rfl, rfl, rfl, rfl, rfl, rfl, rfl⟩

/-- Layer 2: the chosen entry, its embedding and the next residual. -/
abbrev pick2 : List (HloOp τ sig (Elt F)) :=
  [ TRef.nullary (TRef.of (T := ⟨S16384x1024, .i32⟩) main_call4_v0) (iotaInDim S16384x1024 32 1),
    TRef.nullary (TRef.of (T := ⟨S_, .f32⟩) main_call4_cst) (constant S_ .f32 0xFF800000#32),
    TRef.nullary (TRef.of (T := ⟨S_, .i32⟩) main_call4_c) (constantI S_ 32 0#32),
    TRef.quaternary (TRef.of (T := ⟨S16384x1024, .f32⟩) main_v120) (TRef.of (T := ⟨S16384x1024, .i32⟩) main_call4_v0) (TRef.of (T := ⟨S_, .f32⟩) main_call4_cst) (TRef.of (T := ⟨S_, .i32⟩) main_call4_c) (TRef.of (T := ⟨S16384, .f32⟩) main_call4_v1_0) (fun x y u v j => (Host.argReduce reducer_argmax_f32_i32 x y u v reducesTo_S16384x1024_S16384_d1 h_S_ j).1),
    TRef.quaternary (TRef.of (T := ⟨S16384x1024, .f32⟩) main_v120) (TRef.of (T := ⟨S16384x1024, .i32⟩) main_call4_v0) (TRef.of (T := ⟨S_, .f32⟩) main_call4_cst) (TRef.of (T := ⟨S_, .i32⟩) main_call4_c) (TRef.of (T := ⟨S16384, .i32⟩) main_v121) (fun x y u v j => (Host.argReduce reducer_argmax_f32_i32 x y u v reducesTo_S16384x1024_S16384_d1 h_S_ j).2),
    TRef.unary (TRef.of (T := ⟨S16384, .i32⟩) main_v121) (TRef.of (T := ⟨S16384x1, .i32⟩) main_call5_v0) (broadcastInDim S16384x1 ![0] bcast_S16384_S16384x1_0),
    TRef.nullary (TRef.of (T := ⟨S1x1024, .i32⟩) main_call5_v1) (iotaInDim S1x1024 32 1),
    TRef.unary (TRef.of (T := ⟨S16384x1, .i32⟩) main_call5_v0) (TRef.of (T := ⟨S16384x1024, .i32⟩) main_call5_v2) (broadcastInDim S16384x1024 ![0, 1] bcast_S16384x1_S16384x1024_0_1),
    TRef.unary (TRef.of (T := ⟨S1x1024, .i32⟩) main_call5_v1) (TRef.of (T := ⟨S16384x1024, .i32⟩) main_call5_v3) (broadcastInDim S16384x1024 ![0, 1] bcast_S1x1024_S16384x1024_0_1),
    TRef.binary (TRef.of (T := ⟨S16384x1024, .i32⟩) main_call5_v2) (TRef.of (T := ⟨S16384x1024, .i32⟩) main_call5_v3) (TRef.of (T := ⟨S16384x1024, .i1⟩) main_call5_v4) (cmpi .eq),
    TRef.unary (TRef.of (T := ⟨S16384x1024, .i1⟩) main_call5_v4) (TRef.of (T := ⟨S16384x1024, .f32⟩) main_v122) (uitofp .f32),
    binary main_v122 main_v120 main_v123 (addf : (⟨S16384x1024, .f32⟩ : BufTy).Contents (Elt F) → (⟨S16384x1024, .f32⟩ : BufTy).Contents (Elt F) → (⟨S16384x1024, .f32⟩ : BufTy).Contents (Elt F)),
    binary main_v123 main_v120 main_v124 (subf : (⟨S16384x1024, .f32⟩ : BufTy).Contents (Elt F) → (⟨S16384x1024, .f32⟩ : BufTy).Contents (Elt F) → (⟨S16384x1024, .f32⟩ : BufTy).Contents (Elt F)),
    binary main_v124 main_v89 main_v125 ((fun l r => Host.dotGeneral dot_S16384x1024_S1024x256_S16384x256_1_0_0_1_n_n none l r) : (⟨S16384x1024, .f32⟩ : BufTy).Contents (Elt F) → (⟨S1024x256, .f32⟩ : BufTy).Contents (Elt F) → (⟨S16384x256, .f32⟩ : BufTy).Contents (Elt F)),
    binary main_v87 main_v125 main_v126 (subf : (⟨S16384x256, .f32⟩ : BufTy).Contents (Elt F) → (⟨S16384x256, .f32⟩ : BufTy).Contents (Elt F) → (⟨S16384x256, .f32⟩ : BufTy).Contents (Elt F)) ]

theorem pick2_sub : (pick2 : List (HloOp τ sig (Elt F))).Forall fun op => op.bufs ⊆ tcRefs τ sig :=
  ⟨nullary_bufs_sub .., nullary_bufs_sub .., nullary_bufs_sub .., quaternary_bufs_sub .., quaternary_bufs_sub .., unary_bufs_sub .., nullary_bufs_sub .., unary_bufs_sub .., unary_bufs_sub .., binary_bufs_sub .., unary_bufs_sub .., binary_bufs_sub .., binary_bufs_sub .., binary_bufs_sub .., binary_bufs_sub ..⟩

theorem pick2_fresh : (pick2 : List (HloOp τ sig (Elt F))).Forall fun op => op.fresh = ∅ :=
  ⟨rfl, rfl, rfl, rfl, rfl, rfl, rfl, rfl, rfl, rfl, rfl, rfl, rfl, rfl, rfl⟩

/-- The stacks of the three embeddings and of the three residuals. -/
abbrev stk : List (HloOp τ sig (Elt F)) :=
  [ unary main_v47 main_v127 (broadcastInDim S16384x256x1 ![0, 1] bcast_S16384x256_S16384x256x1_0_1 : (⟨S16384x256, .f32⟩ : BufTy).Contents (Elt F) → (⟨S16384x256x1, .f32⟩ : BufTy).Contents (Elt F)),
    unary main_v86 main_v128 (broadcastInDim S16384x256x1 ![0, 1] bcast_S16384x256_S16384x256x1_0_1 : (⟨S16384x256, .f32⟩ : BufTy).Contents (Elt F) → (⟨S16384x256x1, .f32⟩ : BufTy).Contents (Elt F)),
    unary main_v125 main_v129 (broadcastInDim S16384x256x1 ![0, 1] bcast_S16384x256_S16384x256x1_0_1 : (⟨S16384x256, .f32⟩ : BufTy).Contents (Elt F) → (⟨S16384x256x1, .f32⟩ : BufTy).Contents (Elt F)),
    nary ![main_v127, main_v128, main_v129] main_v130 (fun u => stack (u 0) (u 1) (u 2)),
    unary main_v9 main_v131 (broadcastInDim S16384x256x1 ![0, 1] bcast_S16384x256_S16384x256x1_0_1 : (⟨S16384x256, .f32⟩ : BufTy).Contents (Elt F) → (⟨S16384x256x1, .f32⟩ : BufTy).Contents (Elt F)),
    unary main_v48 main_v132 (broadcastInDim S16384x256x1 ![0, 1] bcast_S16384x256_S16384x256x1_0_1 : (⟨S16384x256, .f32⟩ : BufTy).Contents (Elt F) → (⟨S16384x256x1, .f32⟩ : BufTy).Contents (Elt F)),
    unary main_v87 main_v133 (broadcastInDim S16384x256x1 ![0, 1] bcast_S16384x256_S16384x256x1_0_1 : (⟨S16384x256, .f32⟩ : BufTy).Contents (Elt F) → (⟨S16384x256x1, .f32⟩ : BufTy).Contents (Elt F)),
    nary ![main_v131, main_v132, main_v133] main_v134 (fun u => stack (u 0) (u 1) (u 2)) ]

theorem stk_sub : (stk : List (HloOp τ sig (Elt F))).Forall fun op => op.bufs ⊆ tcRefs τ sig :=
  ⟨unary_bufs_sub .., unary_bufs_sub .., unary_bufs_sub .., nary_bufs_sub .., unary_bufs_sub .., unary_bufs_sub .., unary_bufs_sub .., nary_bufs_sub ..⟩

theorem stk_fresh : (stk : List (HloOp τ sig (Elt F))).Forall fun op => op.fresh = ∅ :=
  ⟨rfl, rfl, rfl, rfl, rfl, rfl, rfl, rfl⟩

/-- The decoder, the two losses and their mean. -/
abbrev fin : List (HloOp τ sig (Elt F)) :=
  [ nullary main_cst_18 (constant S_ .f32 0x00000000#32),
    binary main_v130 main_cst_18 main_v135 ((fun x v => Host.reduceAdd x v reducesTo_S16384x256x3_S16384x256_d2 h_S_) : (⟨S16384x256x3, .f32⟩ : BufTy).Contents (Elt F) → (⟨S_, .f32⟩ : BufTy).Contents (Elt F) → (⟨S16384x256, .f32⟩ : BufTy).Contents (Elt F)),
    binary main_v135 main_arg5 main_v136 ((fun l r => Host.dotGeneral dot_S16384x256_S256x2048_S16384x2048_1_0_0_1_n_n none l r) : (⟨S16384x256, .f32⟩ : BufTy).Contents (Elt F) → (⟨S256x2048, .f32⟩ : BufTy).Contents (Elt F) → (⟨S16384x2048, .f32⟩ : BufTy).Contents (Elt F)),
    unary main_arg6 main_v137 (broadcastInDim S1x2048 ![1] bcast_S2048_S1x2048_1 : (⟨S2048, .f32⟩ : BufTy).Contents (Elt F) → (⟨S1x2048, .f32⟩ : BufTy).Contents (Elt F)),
    unary main_v137 main_v138 (broadcastInDim S16384x2048 ![0, 1] bcast_S1x2048_S16384x2048_0_1 : (⟨S1x2048, .f32⟩ : BufTy).Contents (Elt F) → (⟨S16384x2048, .f32⟩ : BufTy).Contents (Elt F)),
    binary main_v136 main_v138 main_v139 (addf : (⟨S16384x2048, .f32⟩ : BufTy).Contents (Elt F) → (⟨S16384x2048, .f32⟩ : BufTy).Contents (Elt F) → (⟨S16384x2048, .f32⟩ : BufTy).Contents (Elt F)),
    nullary main_cst_19 (constant S_ .f32 0x00000000#32),
    unary main_cst_19 main_v140 (broadcastInDim S16384x2048 ![] bcast_S_S16384x2048 : (⟨S_, .f32⟩ : BufTy).Contents (Elt F) → (⟨S16384x2048, .f32⟩ : BufTy).Contents (Elt F)),
    binary main_v139 main_v140 main_v141 (maximumf : (⟨S16384x2048, .f32⟩ : BufTy).Contents (Elt F) → (⟨S16384x2048, .f32⟩ : BufTy).Contents (Elt F) → (⟨S16384x2048, .f32⟩ : BufTy).Contents (Elt F)),
    binary main_v141 main_arg7 main_v142 ((fun l r => Host.dotGeneral dot_S16384x2048_S2048x768_S16384x768_1_0_0_1_n_n none l r) : (⟨S16384x2048, .f32⟩ : BufTy).Contents (Elt F) → (⟨S2048x768, .f32⟩ : BufTy).Contents (Elt F) → (⟨S16384x768, .f32⟩ : BufTy).Contents (Elt F)),
    unary main_arg8 main_v143 (broadcastInDim S1x768 ![1] bcast_S768_S1x768_1 : (⟨S768, .f32⟩ : BufTy).Contents (Elt F) → (⟨S1x768, .f32⟩ : BufTy).Contents (Elt F)),
    unary main_v143 main_v144 (broadcastInDim S16384x768 ![0, 1] bcast_S1x768_S16384x768_0_1 : (⟨S1x768, .f32⟩ : BufTy).Contents (Elt F) → (⟨S16384x768, .f32⟩ : BufTy).Contents (Elt F)),
    binary main_v142 main_v144 main_v145 (addf : (⟨S16384x768, .f32⟩ : BufTy).Contents (Elt F) → (⟨S16384x768, .f32⟩ : BufTy).Contents (Elt F) → (⟨S16384x768, .f32⟩ : BufTy).Contents (Elt F)),
    binary main_v145 main_arg0 main_v146 (subf : (⟨S16384x768, .f32⟩ : BufTy).Contents (Elt F) → (⟨S16384x768, .f32⟩ : BufTy).Contents (Elt F) → (⟨S16384x768, .f32⟩ : BufTy).Contents (Elt F)),
    binary main_v146 main_v146 main_v147 (mulf : (⟨S16384x768, .f32⟩ : BufTy).Contents (Elt F) → (⟨S16384x768, .f32⟩ : BufTy).Contents (Elt F) → (⟨S16384x768, .f32⟩ : BufTy).Contents (Elt F)),
    nullary main_cst_20 (constant S_ .f32 0x00000000#32),
    binary main_v147 main_cst_20 main_v148 ((fun x v => Host.reduceAdd x v reducesTo_S16384x768_S16384_d1 h_S_) : (⟨S16384x768, .f32⟩ : BufTy).Contents (Elt F) → (⟨S_, .f32⟩ : BufTy).Contents (Elt F) → (⟨S16384, .f32⟩ : BufTy).Contents (Elt F)),
    binary main_v134 main_v130 main_v149 (subf : (⟨S16384x256x3, .f32⟩ : BufTy).Contents (Elt F) → (⟨S16384x256x3, .f32⟩ : BufTy).Contents (Elt F) → (⟨S16384x256x3, .f32⟩ : BufTy).Contents (Elt F)),
    binary main_v149 main_v149 main_v150 (mulf : (⟨S16384x256x3, .f32⟩ : BufTy).Contents (Elt F) → (⟨S16384x256x3, .f32⟩ : BufTy).Contents (Elt F) → (⟨S16384x256x3, .f32⟩ : BufTy).Contents (Elt F)),
    binary main_v134 main_v130 main_v151 (subf : (⟨S16384x256x3, .f32⟩ : BufTy).Contents (Elt F) → (⟨S16384x256x3, .f32⟩ : BufTy).Contents (Elt F) → (⟨S16384x256x3, .f32⟩ : BufTy).Contents (Elt F)),
    binary main_v151 main_v151 main_v152 (mulf : (⟨S16384x256x3, .f32⟩ : BufTy).Contents (Elt F) → (⟨S16384x256x3, .f32⟩ : BufTy).Contents (Elt F) → (⟨S16384x256x3, .f32⟩ : BufTy).Contents (Elt F)),
    nullary main_cst_21 (constant S_ .f32 0x3E800000#32),
    unary main_cst_21 main_v153 (broadcastInDim S16384x256x3 ![] bcast_S_S16384x256x3 : (⟨S_, .f32⟩ : BufTy).Contents (Elt F) → (⟨S16384x256x3, .f32⟩ : BufTy).Contents (Elt F)),
    binary main_v153 main_v152 main_v154 (mulf : (⟨S16384x256x3, .f32⟩ : BufTy).Contents (Elt F) → (⟨S16384x256x3, .f32⟩ : BufTy).Contents (Elt F) → (⟨S16384x256x3, .f32⟩ : BufTy).Contents (Elt F)),
    binary main_v150 main_v154 main_v155 (addf : (⟨S16384x256x3, .f32⟩ : BufTy).Contents (Elt F) → (⟨S16384x256x3, .f32⟩ : BufTy).Contents (Elt F) → (⟨S16384x256x3, .f32⟩ : BufTy).Contents (Elt F)),
    nullary main_cst_22 (constant S_ .f32 0x00000000#32),
    binary main_v155 main_cst_22 main_v156 ((fun x v => Host.reduceAdd x v reducesTo_S16384x256x3_S16384_d1_2 h_S_) : (⟨S16384x256x3, .f32⟩ : BufTy).Contents (Elt F) → (⟨S_, .f32⟩ : BufTy).Contents (Elt F) → (⟨S16384, .f32⟩ : BufTy).Contents (Elt F)),
    binary main_v148 main_v156 main_v157 (addf : (⟨S16384, .f32⟩ : BufTy).Contents (Elt F) → (⟨S16384, .f32⟩ : BufTy).Contents (Elt F) → (⟨S16384, .f32⟩ : BufTy).Contents (Elt F)),
    nullary main_cst_23 (constant S_ .f32 0x00000000#32),
    binary main_v157 main_cst_23 main_v158 ((fun x v => Host.reduceAdd x v reducesTo_S16384_S_d0 h_S_) : (⟨S16384, .f32⟩ : BufTy).Contents (Elt F) → (⟨S_, .f32⟩ : BufTy).Contents (Elt F) → (⟨S_, .f32⟩ : BufTy).Contents (Elt F)),
    nullary main_cst_24 (constant S_ .f32 0x46800000#32),
    binary main_v158 main_cst_24 main_v159 (Host.divf : (⟨S_, .f32⟩ : BufTy).Contents (Elt F) → (⟨S_, .f32⟩ : BufTy).Contents (Elt F) → (⟨S_, .f32⟩ : BufTy).Contents (Elt F)) ]

theorem fin_sub : (fin : List (HloOp τ sig (Elt F))).Forall fun op => op.bufs ⊆ tcRefs τ sig :=
  ⟨nullary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., binary_bufs_sub .., binary_bufs_sub .., nullary_bufs_sub .., binary_bufs_sub .., binary_bufs_sub .., binary_bufs_sub .., binary_bufs_sub .., binary_bufs_sub .., nullary_bufs_sub .., unary_bufs_sub .., binary_bufs_sub .., binary_bufs_sub .., nullary_bufs_sub .., binary_bufs_sub .., binary_bufs_sub .., nullary_bufs_sub .., binary_bufs_sub .., nullary_bufs_sub .., binary_bufs_sub ..⟩

theorem fin_fresh : (fin : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem part0_eq (c : Dev nD) : main_part0 (F := F) c = seq (enc ++ sco0 ++ soft0 ++ pick0 ++ sco1.take 4) := rfl

theorem part1_eq (c : Dev nD) : main_part1 (F := F) c = seq (sco1.drop 4 ++ soft1 ++ pick1 ++ sco2.take 19) := rfl

theorem part2_eq (c : Dev nD) : main_part2 (F := F) c = seq (sco2.drop 19 ++ soft2 ++ pick2 ++ stk ++ fin.take 26) := rfl

theorem part3_eq (c : Dev nD) : main_part3 (F := F) c = seq (fin.drop 26) := rfl

/-- The whole line of operations. -/
abbrev ops : List (HloOp τ sig (Elt F)) :=
  enc ++ (sco0 ++ (soft0 ++ (pick0 ++ (sco1 ++ (soft1 ++ (pick1 ++ (sco2 ++ (soft2 ++ (pick2 ++ (stk ++ (fin)))))))))))

/-- Four lists in a row run one after the other. -/
theorem seq_four (a b d e : List (HloOp τ sig (Elt F))) : seq (nD := nD) (Λ := Pipeline.Sig Λ₀ (Fin 0) fun p => (pcfgs (F := F) p).Adm) (a ++ (b ++ (d ++ e))) =
    (do seq a; seq b; seq d; seq e) := by
  rw [seq_append, seq_append, seq_append]

/-- The program is the whole line in sequence. -/
theorem main_eq (c : Dev nD) : main (F := F) c = seq ops := by
  have h : (ops : List (HloOp τ sig (Elt F))) = (enc ++ sco0 ++ soft0 ++ pick0 ++ sco1.take 4) ++
      ((sco1.drop 4 ++ soft1 ++ pick1 ++ sco2.take 19) ++ ((sco2.drop 19 ++ soft2 ++ pick2 ++ stk ++ fin.take 26) ++ fin.drop 26)) := rfl
  rw [h, seq_four, ← part0_eq c, ← part1_eq c, ← part2_eq c, ← part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- What holds along two lists holds along both in a row. -/
theorem forall_append {p : HloOp τ sig (Elt F) → Prop} {a b : List (HloOp τ sig (Elt F))} (ha : a.Forall p) (hb : b.Forall p) :
    (a ++ b).Forall p := List.forall_append.mpr ⟨ha, hb⟩

/-- Every operation works on the program's own buffers. -/
theorem ops_sub : (ops : List (HloOp τ sig (Elt F))).Forall fun op => op.bufs ⊆ tcRefs τ sig :=
  forall_append enc_sub <| forall_append sco0_sub <| forall_append soft0_sub <| forall_append pick0_sub <|
  forall_append sco1_sub <| forall_append soft1_sub <| forall_append pick1_sub <|
  forall_append sco2_sub <| forall_append soft2_sub <| forall_append pick2_sub <| forall_append stk_sub fin_sub

/-- No operation asks for fresh values. -/
theorem ops_fresh : (ops : List (HloOp τ sig (Elt F))).Forall fun op => op.fresh = ∅ :=
  forall_append enc_fresh <| forall_append sco0_fresh <| forall_append soft0_fresh <| forall_append pick0_fresh <|
  forall_append sco1_fresh <| forall_append soft1_fresh <| forall_append pick1_fresh <|
  forall_append sco2_fresh <| forall_append soft2_fresh <| forall_append pick2_fresh <| forall_append stk_fresh fin_fresh

end Cert.ReferenceIdeal.Line

end
-- ==== Proof.Ref.Read.lean ====
/- What each stage's list of operations leaves in the buffers the later stages read, from any contents before it. -/
module

public import proofs.«01_k».proof.Proof.Ref.Ops
public import Idealize.ShloMosaic.Lib.StableHlo.RunRead

@[expose] public section

set_option maxRecDepth 8192
set_option maxHeartbeats 4000000

noncomputable section

namespace Cert.ReferenceIdeal.Line

open Cert.ReferenceIdeal Cert.ReferenceIdeal.Gen Idealize.ShloMosaic Idealize.ShloMosaic.TcCoe Idealize.SL.Sem Idealize.ShloMosaic.StableHlo
open Cert.ReferenceIdeal.Stage (stack)

variable {F : FTy → Type} [FloatOps F] (V : Valuation τ sig (Elt F))

/-- The encoder's result. -/
theorem enc_v9 : after enc V (no_index (Proc.devRef .tc main_v9)) = Stage.enc (V (Proc.devRef .tc main_arg0)) (V (Proc.devRef .tc main_arg1)) (V (Proc.devRef .tc main_arg2)) (V (Proc.devRef .tc main_arg3)) (V (Proc.devRef .tc main_arg4)) := by
  after_results_simp; rfl

/-- The first layer's codebook. -/
theorem sco0_v11 : after sco0 V (no_index (Proc.devRef .tc main_v11)) = Stage.book0 (V (Proc.devRef .tc main_arg9)) := by
  after_results_simp; rfl

/-- The first layer's tempered scores. -/
theorem sco0_v31 : after sco0 V (no_index (Proc.devRef .tc main_v31)) = Stage.tempered (Stage.perturbed (V (Proc.devRef .tc main_v9)) (Stage.book0 (V (Proc.devRef .tc main_arg9))) (Stage.noise0 (V (Proc.devRef .tc main_arg10)))) (V (Proc.devRef .tc main_arg11)) := by
  after_results_simp; rfl

/-- The first layer's softmax. -/
theorem soft0_v42 : after soft0 V (no_index (Proc.devRef .tc main_v42)) = Stage.soft (V (Proc.devRef .tc main_v31)) := by
  after_results_simp; rfl

/-- The first layer's embedding. -/
theorem pick0_v47 : after pick0 V (no_index (Proc.devRef .tc main_v47)) = Stage.pick (V (Proc.devRef .tc main_v42)) (V (Proc.devRef .tc main_v11)) := by
  simp only [pick0, TRef.binary, TRef.nullary, TRef.unary, TRef.quaternary, TRef.toBuf, TRef.ofBuf, cast_eq]
  after_results_simp; rfl

/-- The residual after the first layer. -/
theorem pick0_v48 : after pick0 V (no_index (Proc.devRef .tc main_v48)) = subf (V (Proc.devRef .tc main_v9)) (Stage.pick (V (Proc.devRef .tc main_v42)) (V (Proc.devRef .tc main_v11))) := by
  simp only [pick0, TRef.binary, TRef.nullary, TRef.unary, TRef.quaternary, TRef.toBuf, TRef.ofBuf, cast_eq]
  after_results_simp; rfl

/-- The second layer's codebook. -/
theorem sco1_v50 : after sco1 V (no_index (Proc.devRef .tc main_v50)) = Stage.book1 (V (Proc.devRef .tc main_arg9)) := by
  after_results_simp; rfl

/-- The second layer's tempered scores. -/
theorem sco1_v70 : after sco1 V (no_index (Proc.devRef .tc main_v70)) = Stage.tempered (Stage.perturbed (V (Proc.devRef .tc main_v48)) (Stage.book1 (V (Proc.devRef .tc main_arg9))) (Stage.noise1 (V (Proc.devRef .tc main_arg10)))) (V (Proc.devRef .tc main_arg11)) := by
  after_results_simp; rfl

/-- The second layer's softmax. -/
theorem soft1_v81 : after soft1 V (no_index (Proc.devRef .tc main_v81)) = Stage.soft (V (Proc.devRef .tc main_v70)) := by
  after_results_simp; rfl

/-- The second layer's embedding. -/
theorem pick1_v86 : after pick1 V (no_index (Proc.devRef .tc main_v86)) = Stage.pick (V (Proc.devRef .tc main_v81)) (V (Proc.devRef .tc main_v50)) := by
  simp only [pick1, TRef.binary, TRef.nullary, TRef.unary, TRef.quaternary, TRef.toBuf, TRef.ofBuf, cast_eq]
  after_results_simp; rfl

/-- The residual after the second layer. -/
theorem pick1_v87 : after pick1 V (no_index (Proc.devRef .tc main_v87)) = subf (V (Proc.devRef .tc main_v48)) (Stage.pick (V (Proc.devRef .tc main_v81)) (V (Proc.devRef .tc main_v50))) := by
  simp only [pick1, TRef.binary, TRef.nullary, TRef.unary, TRef.quaternary, TRef.toBuf, TRef.ofBuf, cast_eq]
  after_results_simp; rfl

/-- The third layer's codebook. -/
theorem sco2_v89 : after sco2 V (no_index (Proc.devRef .tc main_v89)) = Stage.book2 (V (Proc.devRef .tc main_arg9)) := by
  after_results_simp; rfl

/-- The third layer's tempered scores. -/
theorem sco2_v109 : after sco2 V (no_index (Proc.devRef .tc main_v109)) = Stage.tempered (Stage.perturbed (V (Proc.devRef .tc main_v87)) (Stage.book2 (V (Proc.devRef .tc main_arg9))) (Stage.noise2 (V (Proc.devRef .tc main_arg10)))) (V (Proc.devRef .tc main_arg11)) := by
  after_results_simp; rfl

/-- The third layer's softmax. -/
theorem soft2_v120 : after soft2 V (no_index (Proc.devRef .tc main_v120)) = Stage.soft (V (Proc.devRef .tc main_v109)) := by
  after_results_simp; rfl

/-- The third layer's embedding. -/
theorem pick2_v125 : after pick2 V (no_index (Proc.devRef .tc main_v125)) = Stage.pick (V (Proc.devRef .tc main_v120)) (V (Proc.devRef .tc main_v89)) := by
  simp only [pick2, TRef.binary, TRef.nullary, TRef.unary, TRef.quaternary, TRef.toBuf, TRef.ofBuf, cast_eq]
  after_results_simp; rfl

/-- The residual after the third layer. -/
theorem pick2_v126 : after pick2 V (no_index (Proc.devRef .tc main_v126)) = subf (V (Proc.devRef .tc main_v87)) (Stage.pick (V (Proc.devRef .tc main_v120)) (V (Proc.devRef .tc main_v89))) := by
  simp only [pick2, TRef.binary, TRef.nullary, TRef.unary, TRef.quaternary, TRef.toBuf, TRef.ofBuf, cast_eq]
  after_results_simp; rfl

/-- The stack of the embeddings. -/
theorem stk_v130 : after stk V (no_index (Proc.devRef .tc main_v130)) = Stage.stack3 (V (Proc.devRef .tc main_v47)) (V (Proc.devRef .tc main_v86)) (V (Proc.devRef .tc main_v125)) := by
  after_results_simp; rfl

/-- The stack of the residuals. -/
theorem stk_v134 : after stk V (no_index (Proc.devRef .tc main_v134)) = Stage.stack3 (V (Proc.devRef .tc main_v9)) (V (Proc.devRef .tc main_v48)) (V (Proc.devRef .tc main_v87)) := by
  after_results_simp; rfl

/-- The loss. -/
theorem fin_v159 : after fin V (no_index (Proc.devRef .tc main_v159)) = Stage.mean (Stage.recon (Stage.dec (V (Proc.devRef .tc main_v130)) (V (Proc.devRef .tc main_arg5)) (V (Proc.devRef .tc main_arg6)) (V (Proc.devRef .tc main_arg7)) (V (Proc.devRef .tc main_arg8))) (V (Proc.devRef .tc main_arg0))) (Stage.quant (V (Proc.devRef .tc main_v134)) (V (Proc.devRef .tc main_v130))) := by
  after_results_simp; rfl

/-- The buffers stage `enc` writes. -/
abbrev enc_W : List (Ref sig .tc) := [main_v0, main_v1, main_v2, main_v3, main_cst, main_v4, main_v5, main_v6, main_v7, main_v8, main_v9]

/-- Stage `enc` leaves every other buffer as it was. -/
theorem enc_keep (r : Ref sig .tc) (h : r ∉ enc_W) : after enc V (no_index (Proc.devRef .tc r)) = V (Proc.devRef .tc r) :=
  after_unwritten enc_W rfl h V

/-- The buffers stage `sco0` writes. -/
abbrev sco0_W : List (Ref sig .tc) := [main_v10, main_v11, main_v12, main_v13, main_v14, main_cst_0, main_v15, main_v16, main_v17, main_v18, main_cst_1, main_v19, main_v20, main_v21, main_v22, main_v23, main_cst_2, main_v24, main_v25, main_v26, main_v27, main_v28, main_v29, main_v30, main_v31]

/-- Stage `sco0` leaves every other buffer as it was. -/
theorem sco0_keep (r : Ref sig .tc) (h : r ∉ sco0_W) : after sco0 V (no_index (Proc.devRef .tc r)) = V (Proc.devRef .tc r) :=
  after_unwritten sco0_W rfl h V

/-- The buffers stage `soft0` writes. -/
abbrev soft0_W : List (Ref sig .tc) := [main_cst_3, main_v32, main_cst_4, main_v33, main_v34, main_v35, main_v36, main_v37, main_v38, main_cst_5, main_v39, main_v40, main_v41, main_v42]

/-- Stage `soft0` leaves every other buffer as it was. -/
theorem soft0_keep (r : Ref sig .tc) (h : r ∉ soft0_W) : after soft0 V (no_index (Proc.devRef .tc r)) = V (Proc.devRef .tc r) :=
  after_unwritten soft0_W rfl h V

/-- The buffers stage `pick0` writes. -/
abbrev pick0_W : List (Ref sig .tc) := [main_call0_v0, main_call0_cst, main_call0_c, main_call0_v1_0, main_v43, main_call1_v0, main_call1_v1, main_call1_v2, main_call1_v3, main_call1_v4, main_v44, main_v45, main_v46, main_v47, main_v48]

/-- Stage `pick0` leaves every other buffer as it was. -/
theorem pick0_keep (r : Ref sig .tc) (h : r ∉ pick0_W) : after pick0 V (no_index (Proc.devRef .tc r)) = V (Proc.devRef .tc r) :=
  after_unwritten pick0_W rfl h V

/-- The buffers stage `sco1` writes. -/
abbrev sco1_W : List (Ref sig .tc) := [main_v49, main_v50, main_v51, main_v52, main_v53, main_cst_6, main_v54, main_v55, main_v56, main_v57, main_cst_7, main_v58, main_v59, main_v60, main_v61, main_v62, main_cst_8, main_v63, main_v64, main_v65, main_v66, main_v67, main_v68, main_v69, main_v70]

/-- Stage `sco1` leaves every other buffer as it was. -/
theorem sco1_keep (r : Ref sig .tc) (h : r ∉ sco1_W) : after sco1 V (no_index (Proc.devRef .tc r)) = V (Proc.devRef .tc r) :=
  after_unwritten sco1_W rfl h V

/-- The buffers stage `soft1` writes. -/
abbrev soft1_W : List (Ref sig .tc) := [main_cst_9, main_v71, main_cst_10, main_v72, main_v73, main_v74, main_v75, main_v76, main_v77, main_cst_11, main_v78, main_v79, main_v80, main_v81]

/-- Stage `soft1` leaves every other buffer as it was. -/
theorem soft1_keep (r : Ref sig .tc) (h : r ∉ soft1_W) : after soft1 V (no_index (Proc.devRef .tc r)) = V (Proc.devRef .tc r) :=
  after_unwritten soft1_W rfl h V

/-- The buffers stage `pick1` writes. -/
abbrev pick1_W : List (Ref sig .tc) := [main_call2_v0, main_call2_cst, main_call2_c, main_call2_v1_0, main_v82, main_call3_v0, main_call3_v1, main_call3_v2, main_call3_v3, main_call3_v4, main_v83, main_v84, main_v85, main_v86, main_v87]

/-- Stage `pick1` leaves every other buffer as it was. -/
theorem pick1_keep (r : Ref sig .tc) (h : r ∉ pick1_W) : after pick1 V (no_index (Proc.devRef .tc r)) = V (Proc.devRef .tc r) :=
  after_unwritten pick1_W rfl h V

/-- The buffers stage `sco2` writes. -/
abbrev sco2_W : List (Ref sig .tc) := [main_v88, main_v89, main_v90, main_v91, main_v92, main_cst_12, main_v93, main_v94, main_v95, main_v96, main_cst_13, main_v97, main_v98, main_v99, main_v100, main_v101, main_cst_14, main_v102, main_v103, main_v104, main_v105, main_v106, main_v107, main_v108, main_v109]

/-- Stage `sco2` leaves every other buffer as it was. -/
theorem sco2_keep (r : Ref sig .tc) (h : r ∉ sco2_W) : after sco2 V (no_index (Proc.devRef .tc r)) = V (Proc.devRef .tc r) :=
  after_unwritten sco2_W rfl h V

/-- The buffers stage `soft2` writes. -/
abbrev soft2_W : List (Ref sig .tc) := [main_cst_15, main_v110, main_cst_16, main_v111, main_v112, main_v113, main_v114, main_v115, main_v116, main_cst_17, main_v117, main_v118, main_v119, main_v120]

/-- Stage `soft2` leaves every other buffer as it was. -/
theorem soft2_keep (r : Ref sig .tc) (h : r ∉ soft2_W) : after soft2 V (no_index (Proc.devRef .tc r)) = V (Proc.devRef .tc r) :=
  after_unwritten soft2_W rfl h V

/-- The buffers stage `pick2` writes. -/
abbrev pick2_W : List (Ref sig .tc) := [main_call4_v0, main_call4_cst, main_call4_c, main_call4_v1_0, main_v121, main_call5_v0, main_call5_v1, main_call5_v2, main_call5_v3, main_call5_v4, main_v122, main_v123, main_v124, main_v125, main_v126]

/-- Stage `pick2` leaves every other buffer as it was. -/
theorem pick2_keep (r : Ref sig .tc) (h : r ∉ pick2_W) : after pick2 V (no_index (Proc.devRef .tc r)) = V (Proc.devRef .tc r) :=
  after_unwritten pick2_W rfl h V

/-- The buffers stage `stk` writes. -/
abbrev stk_W : List (Ref sig .tc) := [main_v127, main_v128, main_v129, main_v130, main_v131, main_v132, main_v133, main_v134]

/-- Stage `stk` leaves every other buffer as it was. -/
theorem stk_keep (r : Ref sig .tc) (h : r ∉ stk_W) : after stk V (no_index (Proc.devRef .tc r)) = V (Proc.devRef .tc r) :=
  after_unwritten stk_W rfl h V

/-- The buffers stage `fin` writes. -/
abbrev fin_W : List (Ref sig .tc) := [main_cst_18, main_v135, main_v136, main_v137, main_v138, main_v139, main_cst_19, main_v140, main_v141, main_v142, main_v143, main_v144, main_v145, main_v146, main_v147, main_cst_20, main_v148, main_v149, main_v150, main_v151, main_v152, main_cst_21, main_v153, main_v154, main_v155, main_cst_22, main_v156, main_v157, main_cst_23, main_v158, main_cst_24, main_v159]

/-- Stage `fin` leaves every other buffer as it was. -/
theorem fin_keep (r : Ref sig .tc) (h : r ∉ fin_W) : after fin V (no_index (Proc.devRef .tc r)) = V (Proc.devRef .tc r) :=
  after_unwritten fin_W rfl h V

end Cert.ReferenceIdeal.Line

end
-- ==== Proof.Ref.Run.lean ====
/- The reference program's run: it ends with its result buffer at the composition of the stages, its arguments as they
   were. -/
module

public import proofs.«01_k».proof.Proof.Ref.Read
public import Idealize.ShloMosaic.Lib.StableHlo.RunHlo

@[expose] public section

set_option maxRecDepth 8192
set_option maxHeartbeats 4000000

noncomputable section

namespace Cert.ReferenceIdeal.Stage

open Cert.ReferenceIdeal Cert.ReferenceIdeal.Gen Idealize.ShloMosaic Idealize.ShloMosaic.StableHlo

variable {F : FTy → Type} [FloatOps F]

/-- The embedding one layer picks for the residual `r`. -/
def emb (r : FVec F S16384x256 .f32) (cb : FVec F S1024x256 .f32) (g : FVec F S16384x1024 .f32) (tau : FVec F S_ .f32) :
    FVec F S16384x256 .f32 := pick (soft (tempered (perturbed r cb g) tau)) cb

/-- The mean loss from the residual the encoder leaves. -/
def lossFrom (x : FVec F S16384x768 .f32) (d1 : FVec F S256x2048 .f32) (c1 : FVec F S2048 .f32)
    (d2 : FVec F S2048x768 .f32) (c2 : FVec F S768 .f32) (r0 r1 r2 e0 e1 e2 : FVec F S16384x256 .f32) : FVec F S_ .f32 :=
  mean (recon (dec (stack3 e0 e1 e2) d1 c1 d2 c2) x) (quant (stack3 r0 r1 r2) (stack3 e0 e1 e2))

/-- The reference's result from its twelve arguments. -/
def loss (x : FVec F S16384x768 .f32) (w1 : FVec F S768x2048 .f32) (b1 : FVec F S2048 .f32)
    (w2 : FVec F S2048x256 .f32) (b2 : FVec F S256 .f32) (d1 : FVec F S256x2048 .f32) (c1 : FVec F S2048 .f32)
    (d2 : FVec F S2048x768 .f32) (c2 : FVec F S768 .f32) (cb : FVec F S3x1024x256 .f32) (g : FVec F S3x16384x1024 .f32)
    (tau : FVec F S_ .f32) : FVec F S_ .f32 :=
  let r0 := enc x w1 b1 w2 b2
  let e0 := emb r0 (book0 cb) (noise0 g) tau
  let r1 := subf r0 e0
  let e1 := emb r1 (book1 cb) (noise1 g) tau
  let r2 := subf r1 e1
  let e2 := emb r2 (book2 cb) (noise2 g) tau
  lossFrom x d1 c1 d2 c2 r0 r1 r2 e0 e1 e2

end Cert.ReferenceIdeal.Stage

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F] (V : Valuation τ sig (Elt F))

/-- The line taken stage by stage. -/
theorem after_ops : after ops V = after fin (after stk (after pick2 (after soft2 (after sco2 (after pick1 (after soft1
    (after sco1 (after pick0 (after soft0 (after sco0 (after enc V))))))))))) := by
  simp only [ops, after_append]

/-- The whole line's result. -/
theorem ops_v159 : after ops V (Proc.devRef .tc main_v159)
    = Stage.loss (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops, fin_v159]
  simp (disch := decide) only [stk_v130, stk_v134, stk_keep, pick2_v125, pick2_keep, soft2_v120, soft2_keep, sco2_v109, sco2_v89, sco2_keep,
    pick1_v86, pick1_v87, pick1_keep, soft1_v81, soft1_keep, sco1_v70, sco1_v50, sco1_keep,
    pick0_v47, pick0_v48, pick0_keep, soft0_v42, soft0_keep, sco0_v31, sco0_v11, sco0_keep, enc_v9, enc_keep]
  rfl

/-- The line leaves a buffer no stage writes. -/
theorem ops_keep (r : Ref sig .tc) (h0 : r ∉ enc_W) (h1 : r ∉ sco0_W) (h2 : r ∉ soft0_W) (h3 : r ∉ pick0_W) (h4 : r ∉ sco1_W)
    (h5 : r ∉ soft1_W) (h6 : r ∉ pick1_W) (h7 : r ∉ sco2_W) (h8 : r ∉ soft2_W) (h9 : r ∉ pick2_W) (h10 : r ∉ stk_W) (h11 : r ∉ fin_W) :
    after ops V (Proc.devRef .tc r) = V (Proc.devRef .tc r) := by
  rw [after_ops, fin_keep _ r h11, stk_keep _ r h10, pick2_keep _ r h9, soft2_keep _ r h8, sco2_keep _ r h7, pick1_keep _ r h6,
    soft1_keep _ r h5, sco1_keep _ r h4, pick0_keep _ r h3, soft0_keep _ r h2, sco0_keep _ r h1, enc_keep _ r h0]

variable (m : (ℓ : Loc nD τ sig) → Buf (Elt F) ℓ) (ρ : Dev nD → PrngReg)

/-- The reference's result on core `c`, from the arguments in memory `m`. -/
def result (c : Dev nD) : FVec F S_ .f32 :=
  Stage.loss (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))

/-- Every weakly fair execution of the reference ends with its result buffer at `result` and its arguments unchanged. -/
theorem run : θ_run defs (onTc (τ := τ) (main (F := F))) ⟨m, fun _ => 0, ρ⟩ fun r => ∀ c : Dev nD,
      r.2.mem ((c.tc : Thread nD τ).loc main_v159) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  have keep (c : Dev nD) (r : Ref sig .tc) := ops_keep (launchContents m c) r
  refine θ_run_mono (run_seq scopedRefs_eq scopedSems_eq defs main (fun _ => ops) main_eq (fun _ => ops_sub) m ρ fun _ =>
    List.forall_iff_forall_mem.mp ops_fresh) fun r h c => ?_
  refine ⟨(h c main_v159).trans (ops_v159 _), ?_⟩
  refine ⟨?_, ?_, ?_, ?_, ?_, ?_, ?_, ?_, ?_, ?_, ?_, ?_⟩ <;>
    exact (h c _).trans (keep c _ (by decide) (by decide) (by decide) (by decide) (by decide) (by decide) (by decide)
      (by decide) (by decide) (by decide) (by decide) (by decide))

end Cert.ReferenceIdeal.Line

end
-- ==== Proof.Row.lean ====
/- The mathematics of one row of the batch, over the extended reals: scores, the entry of the largest score, the softmax
   of the scores, and the row's loss in the kernel's form and in the reference's. -/
module

public import Idealize.ShloMosaic.PureOps.Ideal
public import Idealize.ShloMosaic.PureOps.Ideal.Laws
public import Idealize.ShloMosaic.Lib.IdealHost

@[expose] public section

noncomputable section

namespace Cert.Row

open Idealize.ShloMosaic

/-! ## Real entries -/

/-- `x` is a real number. -/
def IsR (x : EReal) : Prop := ∃ a : ℝ, x = (a : EReal)

theorem IsR.add {x y : EReal} (hx : IsR x) (hy : IsR y) : IsR (x + y) := by
  obtain ⟨a, rfl⟩ := hx; obtain ⟨b, rfl⟩ := hy; exact ⟨a + b, by push_cast; rfl⟩
theorem IsR.sub {x y : EReal} (hx : IsR x) (hy : IsR y) : IsR (x - y) := by
  obtain ⟨a, rfl⟩ := hx; obtain ⟨b, rfl⟩ := hy; exact ⟨a - b, by push_cast; rfl⟩
theorem IsR.mul {x y : EReal} (hx : IsR x) (hy : IsR y) : IsR (x * y) := by
  obtain ⟨a, rfl⟩ := hx; obtain ⟨b, rfl⟩ := hy; exact ⟨a * b, by push_cast; rfl⟩
theorem IsR.neg {x : EReal} (hx : IsR x) : IsR (-x) := by
  obtain ⟨a, rfl⟩ := hx; exact ⟨-a, by push_cast; rfl⟩
theorem isR_two : IsR (2 : EReal) := ⟨2, rfl⟩

/-- A sum of reals is the real sum. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type} {s : Finset ι} {f : ι → EReal} (h : ∀ i, IsR (f i)) : IsR (∑ i ∈ s, f i) := by
  choose g hg using h
  exact ⟨∑ i ∈ s, g i, by rw [coe_sum']; exact Finset.sum_congr rfl fun i _ => hg i⟩

/-- What lies strictly between the two infinities is real. -/
theorem isR_of_abs {x : EReal} (h : max x (-x) < ⊤) : IsR x := by
  induction x using EReal.rec with
  | bot => simp at h
  | top => simp at h
  | coe a => exact ⟨a, rfl⟩

/-- What is no real number is infinite. -/
theorem not_isR {x : EReal} (h : ¬ IsR x) : x = ⊥ ∨ x = ⊤ := by
  induction x using EReal.rec with
  | bot => exact .inl rfl
  | top => exact .inr rfl
  | coe a => exact absurd ⟨a, rfl⟩ h

/-! ## Scores -/

variable {K D : Type} [Fintype K] [Fintype D] [DecidableEq K]

/-- The largest score. -/
def top (s : K → EReal) : EReal := Finset.univ.sup s

/-- One at a largest score, zero elsewhere. -/
def mark (s : K → EReal) (k : K) : EReal := if s k = top s then 1 else 0

/-- The sum of the codebook entries of the largest score. -/
def pick (s : K → EReal) (cb : K → D → EReal) (d : D) : EReal := ∑ k, mark s k * cb k d

/-- The kernel's score of an entry. -/
def scoreK (r : D → EReal) (cb : K → D → EReal) (g : K → EReal) (k : K) : EReal :=
  (g k - ∑ d, cb k d * cb k d) + 2 * ∑ d, r d * cb k d

/-- The reference's score of an entry: the noise minus the squared distance. -/
def scoreR (r : D → EReal) (cb : K → D → EReal) (g : K → EReal) (k : K) : EReal :=
  -((∑ d, r d * r d - 2 * ∑ d, r d * cb k d) + ∑ d, cb k d * cb k d) + g k

theorem eq_top_iff (s : K → EReal) (k : K) : s k = top s ↔ ∀ j, s j ≤ s k :=
  ⟨fun h j => h ▸ Finset.le_sup (f := s) (Finset.mem_univ j),
   fun h => le_antisymm (Finset.le_sup (f := s) (Finset.mem_univ k)) (Finset.sup_le fun j _ => h j)⟩

/-- Scores a real constant apart have the same largest entries. -/
theorem mark_shift (s s' : K → EReal) (C : ℝ) (h : ∀ k, s k = s' k + (C : EReal)) : mark s = mark s' := by
  funext k
  unfold mark
  have e : s k = top s ↔ s' k = top s' := by
    rw [eq_top_iff, eq_top_iff]
    refine forall_congr' fun j => ?_
    rw [h, h]
    exact ⟨fun q => le_of_add_le_add_right_coe q, fun q => by gcongr⟩
  simp only [e]
where
  le_of_add_le_add_right_coe {a b : EReal} {C : ℝ} (q : a + (C : EReal) ≤ b + (C : EReal)) : a ≤ b := by
    have := EReal.sub_le_sub q (le_refl (C : EReal))
    simpa [EReal.add_sub_cancel_right] using this

variable {r : D → EReal} {cb : K → D → EReal} {g : K → EReal}

/-- The reference's scores of a real row and a real codebook are below infinity where the noise is. -/
theorem scoreR_ne_top (hr : ∀ d, IsR (r d)) (hc : ∀ k d, IsR (cb k d)) (hg : ∀ k, g k ≠ ⊤) (k : K) : scoreR r cb g k ≠ ⊤ := by
  have h := ((((IsR.sum fun d => (hr d).mul (hr d)).sub (isR_two.mul (IsR.sum fun d => (hr d).mul (hc k d)))).add
    (IsR.sum fun d => (hc k d).mul (hc k d))).neg : IsR (-((∑ d, r d * r d - 2 * ∑ d, r d * cb k d) + ∑ d, cb k d * cb k d)))
  obtain ⟨a, ha⟩ := h
  unfold scoreR
  rw [ha]
  exact EReal.add_ne_top (EReal.coe_ne_top a) (hg k)

/-- On a real row and a real codebook the two scores mark the same entries, where the noise is below infinity. -/
theorem mark_scoreK (hr : ∀ d, IsR (r d)) (hc : ∀ k d, IsR (cb k d)) (hg : ∀ k, g k ≠ ⊤) :
    mark (scoreK r cb g) = mark (scoreR r cb g) := by
  obtain ⟨A, hA⟩ : IsR (∑ d, r d * r d) := IsR.sum fun d => (hr d).mul (hr d)
  refine mark_shift _ _ A fun k => ?_
  obtain ⟨B, hB⟩ : IsR (∑ d, r d * cb k d) := IsR.sum fun d => (hr d).mul (hc k d)
  obtain ⟨C, hC⟩ : IsR (∑ d, cb k d * cb k d) := IsR.sum fun d => (hc k d).mul (hc k d)
  unfold scoreK scoreR
  rw [hA, hB, hC, show (2 : EReal) = ((2 : ℝ) : EReal) from rfl]
  have hk := hg k
  generalize g k = q at hk ⊢
  induction q using EReal.rec with
  | bot => rw [EReal.bot_sub, EReal.bot_add, EReal.add_bot, EReal.bot_add]
  | top => exact absurd rfl hk
  | coe G =>
    norm_cast
    ring

theorem pick_scoreK (hr : ∀ d, IsR (r d)) (hc : ∀ k d, IsR (cb k d)) (hg : ∀ k, g k ≠ ⊤) :
    pick (scoreK r cb g) cb = pick (scoreR r cb g) cb := by
  funext d; unfold pick; rw [mark_scoreK hr hc hg]

theorem mark_isR (s : K → EReal) (k : K) : IsR (mark s k) := by
  unfold mark; split
  · exact ⟨1, rfl⟩
  · exact ⟨0, rfl⟩

/-- The picked entry of a real codebook is real. -/
theorem pick_isR (s : K → EReal) (hc : ∀ k d, IsR (cb k d)) (d : D) : IsR (pick s cb d) :=
  IsR.sum fun k => (mark_isR s k).mul (hc k d)

/-- A row with one mark has one entry above all the others. -/
theorem exists_lone {s : K → EReal} (h : ∑ k, mark s k = 1) : ∃ k0, ∀ j, j ≠ k0 → s j < s k0 := by
  have hc : ((Finset.univ.filter fun k => s k = top s).card : EReal) = 1 := by
    rw [← h]; unfold mark; rw [Finset.sum_boole]
  have hc' : (Finset.univ.filter fun k => s k = top s).card = 1 := by exact_mod_cast hc
  obtain ⟨k0, hk⟩ := Finset.card_eq_one.mp hc'
  have hm : k0 ∈ Finset.univ.filter fun k => s k = top s := by rw [hk]; exact Finset.mem_singleton_self k0
  have h0 : s k0 = top s := (Finset.mem_filter.mp hm).2
  refine ⟨k0, fun j hj => lt_of_le_of_ne ((eq_top_iff s k0).mp h0 j) fun e => hj ?_⟩
  have hj : j ∈ Finset.univ.filter fun k => s k = top s := Finset.mem_filter.mpr ⟨Finset.mem_univ j, e.trans h0⟩
  rw [hk] at hj
  exact Finset.mem_singleton.mp hj

theorem mark_lone {s : K → EReal} {k0 : K} (h : ∀ j, j ≠ k0 → s j < s k0) (k : K) : mark s k = if k = k0 then 1 else 0 := by
  have h0 : s k0 = top s := (eq_top_iff s k0).mpr fun j => by
    by_cases e : j = k0
    · rw [e]
    · exact (h j e).le
  unfold mark
  by_cases e : k = k0
  · rw [if_pos e, e, if_pos h0]
  · rw [if_neg e, if_neg (by rw [← h0]; exact (h k e).ne)]

/-! ## The softmax -/

/-- A score's exponential once the largest is taken away. -/
def risen (z : K → EReal) (k : K) : EReal := Ideal.exp (z k - max ⊥ (top z))

/-- The softmax. -/
def soft (z : K → EReal) (k : K) : EReal := Ideal.div (risen z k) (0 + ∑ j, risen z j)

/-- Beside the largest score an entry's exponential is a real from zero up and below one. -/
theorem exp_below {x : EReal} {a t : ℝ} (ht : 0 < t) (hx : x < (a : EReal)) :
    Ideal.div x (t : EReal) ≤ Ideal.div (a : EReal) (t : EReal)
      ∧ ∃ e : ℝ, 0 ≤ e ∧ e < 1 ∧ Ideal.exp (Ideal.div x (t : EReal) - Ideal.div (a : EReal) (t : EReal)) = (e : EReal) := by
  rw [Ideal.div_coe ht.ne', Ideal.div_coe ht.ne']
  have hp : 0 < 1 / t := by positivity
  induction x using EReal.rec with
  | bot =>
    rw [EReal.bot_mul_coe_of_pos hp, EReal.bot_sub]
    exact ⟨bot_le, 0, le_refl 0, one_pos, rfl⟩
  | top => exact absurd hx not_top_lt
  | coe f =>
    have hf : f * (1 / t) < a * (1 / t) := mul_lt_mul_of_pos_right (by exact_mod_cast hx) hp
    refine ⟨by exact_mod_cast hf.le, Real.exp (f * (1 / t) - a * (1 / t)), (Real.exp_pos _).le, (Real.exp_lt_exp.mpr (sub_neg.mpr hf)).trans_eq Real.exp_zero, ?_⟩
    norm_cast

/-- The softmax of scores below infinity over a positive temperature is real and keeps a lone largest entry. -/
theorem soft_lone [Nontrivial K] {s : K → EReal} (hs : ∀ k, s k ≠ ⊤) {t : ℝ} (ht : 0 < t) {k0 : K} (h : ∀ j, j ≠ k0 → s j < s k0) :
    (∀ k, IsR (soft (fun k => Ideal.div (s k) (t : EReal)) k)) ∧
      ∀ j, j ≠ k0 → soft (fun k => Ideal.div (s k) (t : EReal)) j < soft (fun k => Ideal.div (s k) (t : EReal)) k0 := by
  obtain ⟨j0, hj0⟩ := exists_ne k0
  obtain ⟨a, ha⟩ : IsR (s k0) := by
    by_contra hn
    rcases not_isR hn with e | e
    · exact not_lt_bot (e ▸ h j0 hj0)
    · exact hs k0 e
  have below (j : K) (hj : j ≠ k0) := exp_below ht (ha ▸ h j hj : s j < (a : EReal))
  have htop : top (fun k => Ideal.div (s k) (t : EReal)) = Ideal.div (a : EReal) (t : EReal) := by
    rw [← ha]
    refine ((eq_top_iff (fun k => Ideal.div (s k) (t : EReal)) k0).mpr fun j => ?_).symm
    by_cases e : j = k0
    · rw [e]
    · have := (below j e).1
      rwa [← ha] at this
  have one : risen (fun k => Ideal.div (s k) (t : EReal)) k0 = ((1 : ℝ) : EReal) := by
    unfold risen
    rw [htop, max_eq_right bot_le]
    dsimp only
    rw [ha, Ideal.div_coe ht.ne', ← EReal.coe_mul, ← EReal.coe_sub, sub_self]
    exact congrArg ((↑) : ℝ → EReal) Real.exp_zero
  have hr (k : K) : ∃ e : ℝ, 0 ≤ e ∧ (k ≠ k0 → e < 1) ∧ risen (fun k => Ideal.div (s k) (t : EReal)) k = (e : EReal) := by
    by_cases hk : k = k0
    · exact ⟨1, zero_le_one, fun n => absurd hk n, hk ▸ one⟩
    · obtain ⟨_, e, e0, e1, he⟩ := below k hk
      refine ⟨e, e0, fun _ => e1, ?_⟩
      unfold risen
      rw [htop, max_eq_right bot_le, he]
  choose E E0 E1 hE using hr
  have E_one : E k0 = 1 := by
    have := (hE k0).symm.trans one
    exact_mod_cast this
  have hS : 0 < ∑ k, E k :=
    Finset.sum_pos' (fun k _ => E0 k) ⟨k0, Finset.mem_univ _, by rw [E_one]; exact one_pos⟩
  have hy (k : K) : soft (fun k => Ideal.div (s k) (t : EReal)) k = ((E k * (1 / ∑ k, E k) : ℝ) : EReal) := by
    unfold soft
    simp only [hE]
    rw [zero_add, ← coe_sum', Ideal.div_coe hS.ne']
    push_cast; rfl
  refine ⟨fun k => ⟨_, hy k⟩, fun j hj => ?_⟩
  rw [hy, hy]
  have : E j < E k0 := by rw [E_one]; exact E1 j hj
  exact_mod_cast mul_lt_mul_of_pos_right this (by positivity)

/-- Adding and taking away the same real leaves what was there. -/
theorem add_sub_isR {x y : EReal} (hy : IsR y) : (x + y) - y = x := by
  obtain ⟨a, rfl⟩ := hy
  exact EReal.add_sub_cancel_right

/-! ## The loss of a row -/

variable {H I : Type} [Fintype H] [Fintype I]

/-- Two products with a rectifier between: the encoder's form and the decoder's. -/
def mlp (w : D → H → EReal) (v : H → I → EReal) (e : D → EReal) (i : I) : EReal :=
  ∑ h, max (∑ d, e d * w d h) 0 * v h i

/-- The sum of the squares. -/
def sq (v : D → EReal) : EReal := ∑ d, v d * v d

theorem mul_self_nonneg' (x : EReal) : 0 ≤ x * x := by
  rcases le_total 0 x with h | h
  · exact EReal.mul_nonneg h h
  · have := EReal.mul_nonneg (EReal.neg_nonneg.mpr h) (EReal.neg_nonneg.mpr h)
    simpa using this

theorem sq_nonneg' (v : D → EReal) : 0 ≤ sq v := Finset.sum_nonneg fun d _ => mul_self_nonneg' _

/-- A real factor goes into a sum of nonnegative terms. -/
theorem mul_sum' {ι : Type} (c : EReal) (s : Finset ι) (f : ι → EReal) (hf : ∀ i, 0 ≤ f i) :
    c * ∑ i ∈ s, f i = ∑ i ∈ s, c * f i := by
  classical
  induction s using Finset.induction_on with
  | empty => simp
  | insert a s ha ih =>
    rw [Finset.sum_insert ha, Finset.sum_insert ha, EReal.left_distrib_of_nonneg (hf a) (Finset.sum_nonneg fun i _ => hf i), ih]

/-- The weight of the two quantisation losses together. -/
def beta : EReal := ((5 / 4 : ℝ) : EReal)

/-- The weight of the second quantisation loss. -/
def quarter : EReal := ((1 / 4 : ℝ) : EReal)

theorem both (y : EReal) (hy : 0 ≤ y) : y + quarter * y = beta * y := by
  have h1 : (0 : EReal) ≤ ((1 : ℝ) : EReal) := by exact_mod_cast zero_le_one
  have h2 : (0 : EReal) ≤ quarter := by unfold quarter; exact_mod_cast (by norm_num : (0 : ℝ) ≤ 1 / 4)
  have e : beta = ((1 : ℝ) : EReal) + quarter := by
    unfold beta quarter; norm_cast; norm_num
  rw [e, EReal.right_distrib_of_nonneg h1 h2, EReal.coe_one, one_mul]

/-- The row's reconstruction loss. -/
def recon (x : I → EReal) (w : D → H → EReal) (v : H → I → EReal) (e : D → EReal) : EReal :=
  sq fun i => mlp w v e i - x i

/-- The row's loss in the kernel's form, from the residuals before and after every layer. -/
def lossK (x : I → EReal) (w : D → H → EReal) (v : H → I → EReal) (r0 r1 r2 r3 : D → EReal) : EReal :=
  recon x w v (fun d => r0 d - r3 d) + beta * ((sq r1 + sq r2) + sq r3)

/-- The residual a layer of the kernel leaves. -/
def nextK (cb : K → D → EReal) (g : K → EReal) (r : D → EReal) (d : D) : EReal := r d - pick (scoreK r cb g) cb d

/-- The row's loss as the kernel takes it from the row of the input. -/
def rowK {J : Type} [Fintype J] (x : I → EReal) (w1 : I → J → EReal) (w2 : J → D → EReal) (d1 : D → H → EReal)
    (d2 : H → I → EReal) (c0 c1 c2 : K → D → EReal) (g0 g1 g2 : K → EReal) : EReal :=
  lossK x d1 d2 (mlp w1 w2 x) (nextK c0 g0 (mlp w1 w2 x)) (nextK c1 g1 (nextK c0 g0 (mlp w1 w2 x)))
    (nextK c2 g2 (nextK c1 g1 (nextK c0 g0 (mlp w1 w2 x))))

/-- The row's loss in the reference's form, from the residual before every layer and its embedding. -/
def lossR (x : I → EReal) (w : D → H → EReal) (v : H → I → EReal) (r0 r1 r2 e0 e1 e2 : D → EReal) : EReal :=
  recon x w v (fun d => (e0 d + e1 d) + e2 d)
    + ∑ d, (((r0 d - e0 d) * (r0 d - e0 d) + quarter * ((r0 d - e0 d) * (r0 d - e0 d)))
        + ((r1 d - e1 d) * (r1 d - e1 d) + quarter * ((r1 d - e1 d) * (r1 d - e1 d)))
        + ((r2 d - e2 d) * (r2 d - e2 d) + quarter * ((r2 d - e2 d) * (r2 d - e2 d))))

/-- The reference's quantisation loss is the kernel's. -/
theorem quant_eq (a b c : D → EReal) :
    ∑ d, ((a d * a d + quarter * (a d * a d)) + (b d * b d + quarter * (b d * b d)) + (c d * c d + quarter * (c d * c d)))
      = beta * ((sq a + sq b) + sq c) := by
  simp only [both _ (mul_self_nonneg' _)]
  rw [Finset.sum_add_distrib, Finset.sum_add_distrib,
    EReal.left_distrib_of_nonneg (add_nonneg (sq_nonneg' a) (sq_nonneg' b)) (sq_nonneg' c),
    EReal.left_distrib_of_nonneg (sq_nonneg' a) (sq_nonneg' b)]
  unfold sq
  rw [mul_sum' _ _ _ fun d => mul_self_nonneg' (a d), mul_sum' _ _ _ fun d => mul_self_nonneg' (b d),
    mul_sum' _ _ _ fun d => mul_self_nonneg' (c d)]

/-- An infinite entry less anything is infinite, so its square is the top. -/
theorem sub_sq_top {x e : EReal} (h : ¬ IsR x) : (x - e) * (x - e) = ⊤ := by
  have : x - e = ⊥ ∨ x - e = ⊤ := by
    rcases not_isR h with rfl | rfl
    · left; rw [EReal.bot_sub]
    · induction e using EReal.rec with
      | bot => right; rfl
      | top => left; rfl
      | coe a => right; exact EReal.top_sub_coe a
  rcases this with h | h <;> rw [h] <;> rfl

theorem sq_top {a : D → EReal} {d : D} (h : a d * a d = ⊤) : sq a = ⊤ := by
  refine top_le_iff.mp (h ▸ ?_)
  exact Finset.single_le_sum (f := fun d => a d * a d) (fun d _ => mul_self_nonneg' (a d)) (Finset.mem_univ d)

theorem beta_top (b c : D → EReal) {a : D → EReal} (h : sq a = ⊤) {x : EReal} (hx : 0 ≤ x) : x + beta * ((sq a + sq b) + sq c) = ⊤ := by
  have ne {x : EReal} (hx : 0 ≤ x) : x ≠ ⊥ := fun e => by simp [e] at hx
  rw [h, EReal.top_add_of_ne_bot (ne (sq_nonneg' b)), EReal.top_add_of_ne_bot (ne (sq_nonneg' c))]
  unfold beta
  rw [EReal.coe_mul_top_of_pos (by norm_num), EReal.add_top_of_ne_bot (ne hx)]

variable {x : I → EReal} {w : D → H → EReal} {v : H → I → EReal}

/-- With an infinite residual the row's loss is infinite, whatever the embeddings. -/
theorem lossK_top {r0 : D → EReal} {d : D} (h : ¬ IsR (r0 d)) (e r2 r3 : D → EReal) :
    lossK x w v r0 (fun d => r0 d - e d) r2 r3 = ⊤ :=
  beta_top r2 r3 (sq_top (d := d) (sub_sq_top h)) (sq_nonneg' _)

theorem lossR_top {r0 : D → EReal} {d : D} (h : ¬ IsR (r0 d)) (r1 r2 e0 e1 e2 : D → EReal) :
    lossR x w v r0 r1 r2 e0 e1 e2 = ⊤ := by
  unfold lossR
  rw [quant_eq (fun d => r0 d - e0 d) (fun d => r1 d - e1 d) (fun d => r2 d - e2 d)]
  exact beta_top _ _ (sq_top (d := d) (sub_sq_top h)) (sq_nonneg' _)

/-- With real residuals and embeddings the two forms agree. -/
theorem lossK_eq_lossR {r0 e0 e1 e2 : D → EReal} (hr : ∀ d, IsR (r0 d)) (h0 : ∀ d, IsR (e0 d)) (h1 : ∀ d, IsR (e1 d))
    (h2 : ∀ d, IsR (e2 d)) :
    lossK x w v r0 (fun d => r0 d - e0 d) (fun d => r0 d - e0 d - e1 d) (fun d => r0 d - e0 d - e1 d - e2 d)
      = lossR x w v r0 (fun d => r0 d - e0 d) (fun d => r0 d - e0 d - e1 d) e0 e1 e2 := by
  unfold lossK lossR
  rw [quant_eq (fun d => r0 d - e0 d) (fun d => r0 d - e0 d - e1 d) (fun d => r0 d - e0 d - e1 d - e2 d)]
  congr 2
  funext d
  obtain ⟨a, ha⟩ := hr d; obtain ⟨b, hb⟩ := h0 d; obtain ⟨c, hc⟩ := h1 d; obtain ⟨e, he⟩ := h2 d
  simp only [ha, hb, hc, he]
  norm_cast
  ring

end Cert.Row

end
-- ==== Proof.Lit.lean ====
/- The values of the programs' float literals at the extended reals. -/
module

public import Idealize.ShloMosaic.Lib.IdealHost

@[expose] public section

noncomputable section

namespace Cert.Lit

open Idealize.ShloMosaic

theorem two : Ideal.ofBits .f32 0x40000000#32 = 2 := by
  rw [show (2 : EReal) = ((2 : ℝ) : EReal) from rfl]
  simp [Ideal.ofBits, Ideal.ieee, -EReal.coe_mul]; norm_num
theorem negInf : Ideal.ofBits .f32 0xFF800000#32 = ⊥ := by
  simp [Ideal.ofBits, Ideal.ieee]
theorem posInf : Ideal.ofBits .f32 0x7F800000#32 = ⊤ := by
  simp [Ideal.ofBits, Ideal.ieee]
theorem one : Ideal.ofBits .f32 0x3F800000#32 = 1 := by
  rw [show (1 : EReal) = ((1 : ℝ) : EReal) from rfl]
  simp [Ideal.ofBits, Ideal.ieee, -EReal.coe_mul]
  norm_num
theorem zero : Ideal.ofBits .f32 0x00000000#32 = 0 := by
  simp [Ideal.ofBits, Ideal.ieee]
theorem fiveQuarters : Ideal.ofBits .f32 0x3FA00000#32 = ((5 / 4 : ℝ) : EReal) := by
  simp [Ideal.ofBits, Ideal.ieee]
  norm_cast
  norm_num
theorem quarter : Ideal.ofBits .f32 0x3E800000#32 = ((1 / 4 : ℝ) : EReal) := by
  simp [Ideal.ofBits, Ideal.ieee]
  norm_cast
  norm_num

end Cert.Lit

end
-- ==== Proof.Ref.Val.lean ====
/- The stages of the reference read at the extended reals, entry by entry, in the terms of one row. -/
module

public import proofs.«01_k».proof.Proof.Ref.Run
public import proofs.«01_k».proof.Proof.Row
public import proofs.«01_k».proof.Proof.Lit
public import Idealize.ShloMosaic.Lib.Pointwise
public import Idealize.ShloMosaic.Lib.IdealHost

@[expose] public section

set_option maxRecDepth 16384

noncomputable section

namespace Cert.ReferenceIdeal.Stage

open Cert.ReferenceIdeal Cert.ReferenceIdeal.Gen Idealize.ShloMosaic Idealize.ShloMosaic.StableHlo

/-- The encoder with zero biases, at an entry. -/
theorem enc_at (x : FVec Ideal S16384x768 .f32) (w1 : FVec Ideal S768x2048 .f32) (b1 : FVec Ideal S2048 .f32)
    (w2 : FVec Ideal S2048x256 .f32) (b2 : FVec Ideal S256 .f32) (h1 : ∀ h : Fin 2048, b1 (ix1 h) = 0) (h2 : ∀ d : Fin 256, b2 (ix1 d) = 0)
    (b : Fin 16384) (d : Fin 256) :
    enc x w1 b1 w2 b2 (ix2 b d) = Row.mlp (fun i h => w1 (ix2 i h)) (fun h d => w2 (ix2 h d)) (fun i => x (ix2 b i)) d := by
  unfold enc
  simp only [pointwise, OfNat.ofNat_ne_one, reduceDIte, h1, h2, add_zero, zero_add]
  rfl

theorem book0_at (cb : FVec Ideal S3x1024x256 .f32) (k : Fin 1024) (d : Fin 256) : book0 cb (ix2 k d) = cb (ix3 0 k d) := by
  unfold book0
  simp only [pointwise, OfNat.ofNat_ne_one, reduceDIte]
  exact congrArg cb (congrArg₂ (ix3 0) (Fin.ext (Nat.zero_add _)) (Fin.ext (Nat.zero_add _)))
theorem book1_at (cb : FVec Ideal S3x1024x256 .f32) (k : Fin 1024) (d : Fin 256) : book1 cb (ix2 k d) = cb (ix3 1 k d) := by
  unfold book1
  simp only [pointwise, OfNat.ofNat_ne_one, reduceDIte]
  exact congrArg cb (congrArg₂ (ix3 1) (Fin.ext (Nat.zero_add _)) (Fin.ext (Nat.zero_add _)))
theorem book2_at (cb : FVec Ideal S3x1024x256 .f32) (k : Fin 1024) (d : Fin 256) : book2 cb (ix2 k d) = cb (ix3 2 k d) := by
  unfold book2
  simp only [pointwise, OfNat.ofNat_ne_one, reduceDIte]
  exact congrArg cb (congrArg₂ (ix3 2) (Fin.ext (Nat.zero_add _)) (Fin.ext (Nat.zero_add _)))
theorem noise0_at (g : FVec Ideal S3x16384x1024 .f32) (b : Fin 16384) (k : Fin 1024) : noise0 g (ix2 b k) = g (ix3 0 b k) := by
  unfold noise0
  simp only [pointwise, OfNat.ofNat_ne_one, reduceDIte]
  exact congrArg g (congrArg₂ (ix3 0) (Fin.ext (Nat.zero_add _)) (Fin.ext (Nat.zero_add _)))
theorem noise1_at (g : FVec Ideal S3x16384x1024 .f32) (b : Fin 16384) (k : Fin 1024) : noise1 g (ix2 b k) = g (ix3 1 b k) := by
  unfold noise1
  simp only [pointwise, OfNat.ofNat_ne_one, reduceDIte]
  exact congrArg g (congrArg₂ (ix3 1) (Fin.ext (Nat.zero_add _)) (Fin.ext (Nat.zero_add _)))
theorem noise2_at (g : FVec Ideal S3x16384x1024 .f32) (b : Fin 16384) (k : Fin 1024) : noise2 g (ix2 b k) = g (ix3 2 b k) := by
  unfold noise2
  simp only [pointwise, OfNat.ofNat_ne_one, reduceDIte]
  exact congrArg g (congrArg₂ (ix3 2) (Fin.ext (Nat.zero_add _)) (Fin.ext (Nat.zero_add _)))

/-- A layer's scores at an entry. -/
theorem perturbed_at (r : FVec Ideal S16384x256 .f32) (cb : FVec Ideal S1024x256 .f32) (g : FVec Ideal S16384x1024 .f32)
    (b : Fin 16384) (k : Fin 1024) :
    perturbed r cb g (ix2 b k)
      = Row.scoreR (fun d : Fin 256 => r (ix2 b d)) (fun (k : Fin 1024) d => cb (ix2 k d)) (fun k => g (ix2 b k)) k := by
  unfold perturbed
  simp only [pointwise, OfNat.ofNat_ne_one, reduceDIte, zero_add, Lit.two]
  rfl

/-- Three stacked matrices at an entry. -/
theorem stack3_0 (a b c : FVec Ideal S16384x256 .f32) (p : Fin 16384) (d : Fin 256) : stack3 a b c (ix3 p d 0) = a (ix2 p d) := by
  unfold stack3 stack
  refine Eq.trans (concatenate_apply_piece (t := S16384x256x3) 2
    [⟨S16384x256x1, _⟩, ⟨S16384x256x1, _⟩, ⟨S16384x256x1, _⟩] concatenates_S16384x256x1_S16384x256x1_S16384x256x1_S16384x256x3_d2 (ix3 p d 0) 0
    (show 0 < 3 by decide) S16384x256x1 _ rfl rfl 0 rfl (ix3 p d 0) (fun q hq => ?_) rfl) ?_
  · match q with
    | ⟨0, _⟩ => rfl
    | ⟨1, _⟩ => rfl
    | ⟨2, _⟩ => exact absurd rfl hq
  · simp only [pointwise, OfNat.ofNat_ne_one, reduceDIte]
theorem stack3_1 (a b c : FVec Ideal S16384x256 .f32) (p : Fin 16384) (d : Fin 256) : stack3 a b c (ix3 p d 1) = b (ix2 p d) := by
  unfold stack3 stack
  refine Eq.trans (concatenate_apply_piece (t := S16384x256x3) 2
    [⟨S16384x256x1, _⟩, ⟨S16384x256x1, _⟩, ⟨S16384x256x1, _⟩] concatenates_S16384x256x1_S16384x256x1_S16384x256x1_S16384x256x3_d2 (ix3 p d 1) 1
    (show 1 < 3 by decide) S16384x256x1 _ rfl rfl 1 rfl (ix3 p d 0) (fun q hq => ?_) rfl) ?_
  · match q with
    | ⟨0, _⟩ => rfl
    | ⟨1, _⟩ => rfl
    | ⟨2, _⟩ => exact absurd rfl hq
  · simp only [pointwise, OfNat.ofNat_ne_one, reduceDIte]
theorem stack3_2 (a b c : FVec Ideal S16384x256 .f32) (p : Fin 16384) (d : Fin 256) : stack3 a b c (ix3 p d 2) = c (ix2 p d) := by
  unfold stack3 stack
  refine Eq.trans (concatenate_apply_piece (t := S16384x256x3) 2
    [⟨S16384x256x1, _⟩, ⟨S16384x256x1, _⟩, ⟨S16384x256x1, _⟩] concatenates_S16384x256x1_S16384x256x1_S16384x256x1_S16384x256x3_d2 (ix3 p d 2) 2
    (show 2 < 3 by decide) S16384x256x1 _ rfl rfl 2 rfl (ix3 p d 0) (fun q hq => ?_) rfl) ?_
  · match q with
    | ⟨0, _⟩ => rfl
    | ⟨1, _⟩ => rfl
    | ⟨2, _⟩ => exact absurd rfl hq
  · simp only [pointwise, OfNat.ofNat_ne_one, reduceDIte]

/-- The decoder with zero biases, at an entry. -/
theorem dec_at (e0 e1 e2 : FVec Ideal S16384x256 .f32) (w1 : FVec Ideal S256x2048 .f32) (b1 : FVec Ideal S2048 .f32)
    (w2 : FVec Ideal S2048x768 .f32) (b2 : FVec Ideal S768 .f32) (h1 : ∀ h : Fin 2048, b1 (ix1 h) = 0) (h2 : ∀ i : Fin 768, b2 (ix1 i) = 0)
    (b : Fin 16384) (i : Fin 768) :
    dec (stack3 e0 e1 e2) w1 b1 w2 b2 (ix2 b i)
      = Row.mlp (fun d h => w1 (ix2 d h)) (fun h i => w2 (ix2 h i)) (fun d : Fin 256 => (e0 (ix2 b d) + e1 (ix2 b d)) + e2 (ix2 b d)) i := by
  unfold dec
  simp only [pointwise, OfNat.ofNat_ne_one, reduceDIte, h1, h2, add_zero, zero_add, Fin.sum_univ_three, stack3_0, stack3_1, stack3_2]
  rfl

/-- The quantisation loss of a row. -/
theorem quant_at (r0 r1 r2 e0 e1 e2 : FVec Ideal S16384x256 .f32) (b : Fin 16384) :
    quant (stack3 r0 r1 r2) (stack3 e0 e1 e2) (ix1 b)
      = ∑ d : Fin 256, (((r0 (ix2 b d) - e0 (ix2 b d)) * (r0 (ix2 b d) - e0 (ix2 b d)) + Row.quarter * ((r0 (ix2 b d) - e0 (ix2 b d)) * (r0 (ix2 b d) - e0 (ix2 b d))))
        + ((r1 (ix2 b d) - e1 (ix2 b d)) * (r1 (ix2 b d) - e1 (ix2 b d)) + Row.quarter * ((r1 (ix2 b d) - e1 (ix2 b d)) * (r1 (ix2 b d) - e1 (ix2 b d))))
        + ((r2 (ix2 b d) - e2 (ix2 b d)) * (r2 (ix2 b d) - e2 (ix2 b d)) + Row.quarter * ((r2 (ix2 b d) - e2 (ix2 b d)) * (r2 (ix2 b d) - e2 (ix2 b d))))) := by
  unfold quant
  simp only [pointwise, OfNat.ofNat_ne_one, reduceDIte, zero_add, Fin.sum_univ_three, stack3_0, stack3_1, stack3_2, Lit.quarter]
  rfl

/-- The reconstruction loss of a row. -/
theorem recon_at (xh x : FVec Ideal S16384x768 .f32) (b : Fin 16384) :
    recon xh x (ix1 b) = Row.sq fun i : Fin 768 => xh (ix2 b i) - x (ix2 b i) := by
  unfold recon
  simp only [pointwise, OfNat.ofNat_ne_one, reduceDIte, zero_add]
  rfl

/-- The mean of two per-row losses. -/
theorem mean_at (a b : FVec Ideal S16384 .f32) :
    mean a b ix0 = Ideal.div (∑ p : Fin 16384, (a (ix1 p) + b (ix1 p))) (Ideal.ofBits .f32 0x46800000#32) := by
  unfold mean
  simp only [pointwise, OfNat.ofNat_ne_one, reduceDIte, zero_add]

end Cert.ReferenceIdeal.Stage

end
-- ==== Proof.Ref.Soft.lean ====
/- The reference's softmax and indicator rows read at the extended reals, entry by entry. -/
module

public import proofs.«01_k».proof.Proof.Ref.Defs
public import proofs.«01_k».proof.Proof.Row
public import proofs.«01_k».proof.Proof.Lit
public import Idealize.ShloMosaic.Lib.Pointwise
public import Idealize.ShloMosaic.Lib.IdealHost

@[expose] public section

set_option maxRecDepth 16384

noncomputable section

namespace Cert.ReferenceIdeal.Stage

open Cert.ReferenceIdeal Cert.ReferenceIdeal.Gen Idealize.ShloMosaic Idealize.ShloMosaic.StableHlo

/-- The largest entry of a row, from the host's reduction. -/
theorem rowMax_at (z : FVec Ideal S16384x1024 .f32) (b : Fin 16384) :
    Host.reduce FloatOps.maximumf z (constant S_ .f32 0xFF800000#32) reducesTo_S16384x1024_S16384_d1 h_S_ (ix1 b)
      = Row.top fun k : Fin 1024 => z (ix2 b k) := by
  unfold Row.top
  simp only [pointwise, Lit.negInf]
  rfl

/-- The exponentials of a row less a bound `M` of the row. -/
theorem risen_of (z : FVec Ideal S16384x1024 .f32) (M : FVec Ideal S16384 .f32) (b : Fin 16384) (k : Fin 1024) :
    Host.exp (subf z (broadcastInDim S16384x1024 ![0, 1] bcast_S16384x1_S16384x1024_0_1 (broadcastInDim S16384x1 ![0] bcast_S16384_S16384x1_0
      (maximumf (broadcastInDim S16384 ![] bcast_S_S16384 (constant S_ .f32 0xFF800000#32)) M)))) (ix2 b k)
      = Ideal.exp (z (ix2 b k) - max ⊥ (M (ix1 b))) := by
  simp only [pointwise, OfNat.ofNat_ne_one, reduceDIte, Lit.negInf]

theorem risen_at (z : FVec Ideal S16384x1024 .f32) (b : Fin 16384) (k : Fin 1024) :
    risen z (ix2 b k) = Row.risen (fun k : Fin 1024 => z (ix2 b k)) k := by
  unfold risen Row.risen
  rw [risen_of, rowMax_at]

theorem tempered_at (s : FVec Ideal S16384x1024 .f32) (tau : FVec Ideal S_ .f32) (b : Fin 16384) (k : Fin 1024) :
    tempered s tau (ix2 b k) = Ideal.div (s (ix2 b k)) (tau ix0) := by
  unfold tempered
  simp only [pointwise]

/-- Entries over their row's sum. -/
theorem over_sum (e : FVec Ideal S16384x1024 .f32) (b : Fin 16384) (k : Fin 1024) :
    Host.divf e (broadcastInDim S16384x1024 ![0, 1] bcast_S16384x1_S16384x1024_0_1 (broadcastInDim S16384x1 ![0] bcast_S16384_S16384x1_0
      (Host.reduceAdd e (constant S_ .f32 0x00000000#32) reducesTo_S16384x1024_S16384_d1 h_S_))) (ix2 b k)
      = Ideal.div (e (ix2 b k)) (0 + ∑ k : Fin 1024, e (ix2 b k)) := by
  simp only [pointwise, OfNat.ofNat_ne_one, reduceDIte]

/-- The softmax of a row at an entry. -/
theorem soft_at (z : FVec Ideal S16384x1024 .f32) (b : Fin 16384) (k : Fin 1024) :
    soft z (ix2 b k) = Row.soft (fun k : Fin 1024 => z (ix2 b k)) k := by
  unfold soft Row.soft
  rw [over_sum]
  simp only [risen_at]

/-- An indicator row at an entry. -/
theorem mark_at (t : IVec S16384 32) (b : Fin 16384) (k : Fin 1024) :
    mark (F := Ideal) t (ix2 b k) = if t (ix1 b) = BitVec.ofNat 32 k.val then 1 else 0 := by
  unfold mark
  simp only [pointwise, OfNat.ofNat_ne_one, reduceDIte]
  show FloatOps.uitofp .f32 (BitVec.ofBool (t (ix1 b) == BitVec.ofNat 32 k.val)) = _
  by_cases h : t (ix1 b) = BitVec.ofNat 32 k.val
  · rw [if_pos h, beq_iff_eq.mpr h]; simp [FloatOps.uitofp]
  · rw [if_neg h, beq_eq_false_iff_ne.mpr h]; simp [FloatOps.uitofp]

end Cert.ReferenceIdeal.Stage

end
-- ==== Proof.Ref.Arg.lean ====
/- Where a row has one entry above all the others, the reference's arg-max of the row is that entry's place. -/
module

public import proofs.«01_k».proof.Proof.Ref.Defs
public import proofs.«01_k».proof.Proof.Row
public import proofs.«01_k».proof.Proof.Lit
public import Idealize.ShloMosaic.Lib.Pointwise
public import Idealize.ShloMosaic.Lib.IdealHost

@[expose] public section

set_option maxRecDepth 16384

noncomputable section

namespace Cert.ReferenceIdeal.Stage

open Cert.ReferenceIdeal Cert.ReferenceIdeal.Gen Idealize.ShloMosaic Idealize.ShloMosaic.StableHlo

/-- Comparing a pair with one of a smaller value keeps it. -/
theorem arg_keep {p q : EReal × BitVec 32} (h : q.1 < p.1) : reducer_argmax_f32_i32 (F := Ideal) p q = p := by
  have h1 : Ideal.cmp .ogt p.1 q.1 = 1#1 := by simp [Ideal.cmp, h]
  have h2 : Ideal.cmp .une p.1 p.1 = 0#1 := by simp [Ideal.cmp]
  have h3 : Ideal.cmp .oeq p.1 q.1 = 0#1 := by simp [Ideal.cmp, h.ne']
  unfold reducer_argmax_f32_i32
  simp only [Ideal.cmpf_def, h1, h2, h3, IntOp.ori, IntOp.andi, Scalar.select, BitVec.zero_and]
  rfl

/-- Comparing a pair with one of a larger value takes the latter. -/
theorem arg_take {p q : EReal × BitVec 32} (h : p.1 < q.1) : reducer_argmax_f32_i32 (F := Ideal) p q = q := by
  have h1 : Ideal.cmp .ogt p.1 q.1 = 0#1 := by simp [Ideal.cmp, not_lt.mpr h.le]
  have h2 : Ideal.cmp .une p.1 p.1 = 0#1 := by simp [Ideal.cmp]
  have h3 : Ideal.cmp .oeq p.1 q.1 = 0#1 := by simp [Ideal.cmp, h.ne]
  unfold reducer_argmax_f32_i32
  simp only [Ideal.cmpf_def, h1, h2, h3, IntOp.ori, IntOp.andi, Scalar.select, BitVec.zero_and]
  rfl

/-- Comparing a pair with itself leaves it. -/
theorem arg_same (p : EReal × BitVec 32) : reducer_argmax_f32_i32 (F := Ideal) p p = p := by
  unfold reducer_argmax_f32_i32
  simp only [Scalar.select, ite_self]

/-- The value of a comparison is one of the two values. -/
theorem arg_fst (p q : EReal × BitVec 32) : (reducer_argmax_f32_i32 (F := Ideal) p q).1 = p.1 ∨ (reducer_argmax_f32_i32 (F := Ideal) p q).1 = q.1 := by
  unfold reducer_argmax_f32_i32
  simp only [Scalar.select]
  split
  · exact .inl rfl
  · exact .inr rfl

/-- Once at the pair above all the others, the scan stays there. -/
theorem scan_keep (p : EReal × BitVec 32) : ∀ l : List (EReal × BitVec 32), (∀ q ∈ l, q = p ∨ q.1 < p.1) →
    l.foldl (reducer_argmax_f32_i32 (F := Ideal)) p = p
  | [], _ => rfl
  | q :: l, h => by
    rw [List.foldl_cons]
    have e : reducer_argmax_f32_i32 (F := Ideal) p q = p := by
      rcases h q List.mem_cons_self with rfl | hq
      · exact arg_same _
      · exact arg_keep hq
    rw [e]
    exact scan_keep p l fun q hq => h q (List.mem_cons_of_mem _ hq)

/-- The scan of a list ends at the pair above all the others. -/
theorem scan_take (p : EReal × BitVec 32) : ∀ (l : List (EReal × BitVec 32)) (a : EReal × BitVec 32), a.1 < p.1 → p ∈ l →
    (∀ q ∈ l, q = p ∨ q.1 < p.1) → l.foldl (reducer_argmax_f32_i32 (F := Ideal)) a = p
  | [], _, _, hp, _ => absurd hp List.not_mem_nil
  | q :: l, a, ha, hp, h => by
    rw [List.foldl_cons]
    rcases h q List.mem_cons_self with rfl | hq
    · rw [arg_take ha]
      exact scan_keep _ l fun q hq => h q (List.mem_cons_of_mem _ hq)
    · refine scan_take p l _ ?_ ?_ fun q hq => h q (List.mem_cons_of_mem _ hq)
      · rcases arg_fst a q with e | e <;> rw [e]
        · exact ha
        · exact hq
      · rcases List.mem_cons.mp hp with e | e
        · rw [e] at hq; exact absurd hq (lt_irrefl _)
        · exact e

/-- An arg-max along some axes ends at the index whose entry is above all the others of its result index. -/
theorem arg_lone {s t u : Shape} {axes : List (Fin s.rank)} (x : FVec Ideal s .f32) (y : s.Idx → BitVec 32) (ix : u.Idx → Ideal .f32)
    (iy : u.Idx → BitVec 32) (h : s.ReducesTo axes t) (hu : 0 < u.numel) (j : t.Idx) (i0 : s.Idx) (h0 : h.drop i0 = j)
    (hb : ix (Shape.Idx.first hu) < x i0) (hl : ∀ i, h.drop i = j → i = i0 ∨ x i < x i0) :
    Host.argReduce (reducer_argmax_f32_i32 (F := Ideal)) x y ix iy h hu j = (x i0, y i0) := by
  rw [Ideal.argReduce_eq_reduce2, Host.reduce2_eq_foldl_fiber]
  refine scan_take (x i0, y i0) _ _ hb ?_ ?_
  · unfold Host.argReduceFiber
    refine List.mem_map.mpr ⟨s.rowMajor i0, List.mem_filter.mpr ⟨List.mem_finRange _, ?_⟩, ?_⟩
    · rw [Equiv.symm_apply_apply]; exact decide_eq_true h0
    · rw [Equiv.symm_apply_apply]
  · intro q hq
    unfold Host.argReduceFiber at hq
    obtain ⟨n, hn, rfl⟩ := List.mem_map.mp hq
    have hn' : h.drop (s.rowMajor.symm n) = j := of_decide_eq_true (List.mem_filter.mp hn).2
    rcases hl _ hn' with e | e
    · left; rw [e]
    · right; exact e

/-- The result index of an entry is its row. -/
theorem drop_row (i : S16384x1024.Idx) : (reducesTo_S16384x1024_S16384_d1.drop i 0 : ℕ) = i 0 :=
  Shape.ReducesTo.drop_apply_val_of_eq reducesTo_S16384x1024_S16384_d1 i 0 0

/-- The place the reference finds is that of the entry above all the others. -/
theorem top_at (y : FVec Ideal S16384x1024 .f32) (b : Fin 16384) {k0 : Fin 1024} (hb : ⊥ < y (ix2 b k0))
    (h : ∀ k : Fin 1024, k ≠ k0 → y (ix2 b k) < y (ix2 b k0)) : top y (ix1 b) = BitVec.ofNat 32 k0.val := by
  have ht : top y = fun j => (Host.argReduce reducer_argmax_f32_i32 y (iotaInDim S16384x1024 32 1) (constant S_ .f32 0xFF800000#32)
    (constantI S_ 32 0#32) reducesTo_S16384x1024_S16384_d1 h_S_ j).2 := rfl
  rw [ht]
  have e := arg_lone y (iotaInDim S16384x1024 32 1) (constant S_ .f32 0xFF800000#32) (constantI S_ 32 0#32)
    reducesTo_S16384x1024_S16384_d1 h_S_ (ix1 b) (ix2 b k0) ?_ ?_ ?_
  · exact (congrArg Prod.snd e).trans rfl
  · funext a
    apply Fin.ext
    match a with
    | ⟨0, _⟩ => exact drop_row _
  · show Ideal.ofBits .f32 0xFF800000#32 < _
    rw [Lit.negInf]; exact hb
  · intro i hi
    have e0 : i 0 = b := Fin.ext ((drop_row i).symm.trans (congrArg (fun j : S16384.Idx => (j 0 : ℕ)) hi))
    have ei : i = ix2 b (i 1) := by
      funext a
      match a with
      | ⟨0, _⟩ => exact e0
      | ⟨1, _⟩ => rfl
    by_cases hk : (i 1 : Fin 1024) = k0
    · left; exact ei.trans (congrArg (ix2 b) hk)
    · right; rw [ei]; exact h _ hk

end Cert.ReferenceIdeal.Stage

end
-- ==== Proof.Ref.Layer.lean ====
/- One layer of the reference at a row: where the row's scores are real and one of them is above all the others, the
   embedding is the codebook entry of that score. Then the reference's result as the mean of the rows' losses. -/
module

public import proofs.«01_k».proof.Proof.Ref.Val
public import proofs.«01_k».proof.Proof.Ref.Soft
public import proofs.«01_k».proof.Proof.Ref.Arg

@[expose] public section

set_option maxRecDepth 16384

noncomputable section

namespace Cert.ReferenceIdeal.Stage

open Cert.ReferenceIdeal Cert.ReferenceIdeal.Gen Idealize.ShloMosaic Idealize.ShloMosaic.StableHlo

/-- The straight-through weights times the codebook, at an entry. -/
theorem weigh_at (n y : FVec Ideal S16384x1024 .f32) (cb : FVec Ideal S1024x256 .f32) (b : Fin 16384) (d : Fin 256) :
    Host.dotGeneral dot_S16384x1024_S1024x256_S16384x256_1_0_0_1_n_n none (subf (addf n y) y) cb (ix2 b d)
      = ∑ k : Fin 1024, ((n (ix2 b k) + y (ix2 b k)) - y (ix2 b k)) * cb (ix2 k d) := by
  simp only [pointwise, zero_add]

/-- Places below 1024 are told apart by their words. -/
theorem word_inj (i k : Fin 1024) : BitVec.ofNat 32 i.val = BitVec.ofNat 32 k.val ↔ k = i := by
  constructor
  · intro h
    have := congrArg BitVec.toNat h
    rw [BitVec.toNat_ofNat, BitVec.toNat_ofNat, Nat.mod_eq_of_lt (by have := i.2; omega), Nat.mod_eq_of_lt (by have := k.2; omega)] at this
    exact Fin.ext this.symm
  · rintro rfl; rfl

/-- The embedding of a row with scores below infinity, one above all the others. -/
theorem emb_at (r : FVec Ideal S16384x256 .f32) (cb : FVec Ideal S1024x256 .f32) (g : FVec Ideal S16384x1024 .f32)
    (tau : FVec Ideal S_ .f32) (b : Fin 16384) {t : ℝ} (ht : tau ix0 = (t : EReal)) (h0 : 0 < t)
    (hs : ∀ k, Row.scoreR (fun d : Fin 256 => r (ix2 b d)) (fun (k : Fin 1024) d => cb (ix2 k d)) (fun k => g (ix2 b k)) k ≠ ⊤)
    (h1 : ∑ k, Row.mark (Row.scoreR (fun d : Fin 256 => r (ix2 b d)) (fun (k : Fin 1024) d => cb (ix2 k d)) (fun k => g (ix2 b k))) k = 1)
    (d : Fin 256) :
    emb r cb g tau (ix2 b d)
      = Row.pick (Row.scoreR (fun d : Fin 256 => r (ix2 b d)) (fun (k : Fin 1024) d => cb (ix2 k d)) (fun k => g (ix2 b k)))
          (fun (k : Fin 1024) d => cb (ix2 k d)) d := by
  obtain ⟨k0, hk⟩ := Row.exists_lone h1
  obtain ⟨hy, hl⟩ := Row.soft_lone hs h0 hk
  have ey (k : Fin 1024) : soft (tempered (perturbed r cb g) tau) (ix2 b k)
      = Row.soft (fun k => Ideal.div (Row.scoreR (fun d : Fin 256 => r (ix2 b d)) (fun (k : Fin 1024) d => cb (ix2 k d)) (fun k => g (ix2 b k)) k) (t : EReal)) k := by
    rw [soft_at]
    simp only [tempered_at, perturbed_at, ht]
  simp only [← ey] at hy hl
  unfold emb pick
  generalize soft (tempered (perturbed r cb g) tau) = y at hy hl
  rw [weigh_at]
  unfold Row.pick
  refine Finset.sum_congr rfl fun k _ => congrArg (· * cb (ix2 k d)) ?_
  have hb : ⊥ < y (ix2 b k0) := by
    obtain ⟨a, ha⟩ := hy k0
    rw [ha]; exact EReal.bot_lt_coe a
  rw [Row.add_sub_isR (hy k), mark_at, top_at y b hb hl, Row.mark_lone hk]
  simp only [word_inj]

/-- The result from the residuals and the embeddings: the mean of the rows' losses. -/
theorem lossFrom_at (x : FVec Ideal S16384x768 .f32) (d1 : FVec Ideal S256x2048 .f32) (c1 : FVec Ideal S2048 .f32)
    (d2 : FVec Ideal S2048x768 .f32) (c2 : FVec Ideal S768 .f32) (h1 : ∀ h : Fin 2048, c1 (ix1 h) = 0) (h2 : ∀ i : Fin 768, c2 (ix1 i) = 0)
    (r0 r1 r2 e0 e1 e2 : FVec Ideal S16384x256 .f32) :
    lossFrom x d1 c1 d2 c2 r0 r1 r2 e0 e1 e2
      = fun _ => Ideal.div (∑ b : Fin 16384, Row.lossR (fun i : Fin 768 => x (ix2 b i)) (fun (d : Fin 256) (h : Fin 2048) => d1 (ix2 d h))
          (fun h i => d2 (ix2 h i)) (fun d => r0 (ix2 b d)) (fun d => r1 (ix2 b d)) (fun d => r2 (ix2 b d))
          (fun d => e0 (ix2 b d)) (fun d => e1 (ix2 b d)) (fun d => e2 (ix2 b d))) (Ideal.ofBits .f32 0x46800000#32) := by
  funext j
  obtain rfl : j = ix0 := funext fun a => a.elim0
  unfold lossFrom Row.lossR Row.recon
  rw [mean_at]
  simp only [recon_at, quant_at, dec_at _ _ _ _ _ _ _ h1 h2]

end Cert.ReferenceIdeal.Stage

end
-- ==== Proof.Pre.lean ====
/- What the precondition says of the arguments at the extended reals: no bias, a positive finite temperature, real
   codebooks and noise, and in every layer one entry of every row's scores marked as the largest. -/
module

public import proofs.«01_k».proof.Proof.Gen.Pre_plain_and_untied
public import proofs.«01_k».proof.Proof.Ref.Val
public import proofs.«01_k».proof.Proof.Ref.Soft

@[expose] public section

set_option maxRecDepth 16384

noncomputable section

namespace Cert.ReferenceIdeal.Stage

open Cert.ReferenceIdeal Cert.ReferenceIdeal.Gen Idealize.ShloMosaic Idealize.ShloMosaic.StableHlo

section
variable {F : FTy → Type} [FloatOps F]

/-- One at every largest score of a row, zero elsewhere. -/
def best (s : FVec F S16384x1024 .f32) : FVec F S16384x1024 .f32 :=
  select (cmpf .oeq s (broadcastInDim S16384x1024 ![0, 1] bcast_S16384x1_S16384x1024_0_1 (broadcastInDim S16384x1 ![0] bcast_S16384_S16384x1_0
      (Host.reduce FloatOps.maximumf s (constant S_ .f32 0xFF800000#32) reducesTo_S16384x1024_S16384_d1 h_S_))))
    (broadcastInDim S16384x1024 ![] bcast_S_S16384x1024 (constant S_ .f32 0x3F800000#32))
    (broadcastInDim S16384x1024 ![] bcast_S_S16384x1024 (constant S_ .f32 0x00000000#32))

/-- Whether a row has one largest score. -/
def alone (s : FVec F S16384x1024 .f32) : IVec S16384 1 :=
  cmpf .oeq (Host.reduceAdd (best s) (constant S_ .f32 0x00000000#32) reducesTo_S16384x1024_S16384_d1 h_S_)
    (broadcastInDim S16384 ![] bcast_S_S16384 (constant S_ .f32 0x3F800000#32))

/-- The residual a layer leaves when it takes the entries of the largest score. -/
def rest (r : FVec F S16384x256 .f32) (cb : FVec F S1024x256 .f32) (s : FVec F S16384x1024 .f32) : FVec F S16384x256 .f32 :=
  subf r (Host.dotGeneral dot_S16384x1024_S1024x256_S16384x256_1_0_0_1_n_n none (best s) cb)

/-- The first residual after the encoder. -/
def rest1 (r : FVec F S16384x256 .f32) (cb : FVec F S3x1024x256 .f32) (g : FVec F S3x16384x1024 .f32) : FVec F S16384x256 .f32 :=
  rest r (book0 cb) (perturbed r (book0 cb) (noise0 g))

/-- The second residual after the encoder. -/
def rest2 (r : FVec F S16384x256 .f32) (cb : FVec F S3x1024x256 .f32) (g : FVec F S3x16384x1024 .f32) : FVec F S16384x256 .f32 :=
  rest (rest1 r cb g) (book1 cb) (perturbed (rest1 r cb g) (book1 cb) (noise1 g))

/-- The precondition's conditions, in the terms of the reference's stages. -/
theorem fn_eq (x : FVec F S16384x768 .f32) (w1 : FVec F S768x2048 .f32) (b1 : FVec F S2048 .f32)
    (w2 : FVec F S2048x256 .f32) (b2 : FVec F S256 .f32) (d1 : FVec F S256x2048 .f32) (c1 : FVec F S2048 .f32)
    (d2 : FVec F S2048x768 .f32) (c2 : FVec F S768 .f32) (cb : FVec F S3x1024x256 .f32) (g : FVec F S3x16384x1024 .f32)
    (tau : FVec F S_ .f32) :
    Cert.Pre_plain_and_untied.fn (F := F) x w1 b1 w2 b2 d1 c1 d2 c2 cb g tau
      = (cmpf .oeq b1 (broadcastInDim S2048 ![] Pre_plain_and_untied.Gen.bcast_S_S2048 (constant S_ .f32 0x00000000#32)),
         cmpf .oeq b2 (broadcastInDim S256 ![] Pre_plain_and_untied.Gen.bcast_S_S256 (constant S_ .f32 0x00000000#32)),
         cmpf .oeq c1 (broadcastInDim S2048 ![] Pre_plain_and_untied.Gen.bcast_S_S2048 (constant S_ .f32 0x00000000#32)),
         cmpf .oeq c2 (broadcastInDim S768 ![] Pre_plain_and_untied.Gen.bcast_S_S768 (constant S_ .f32 0x00000000#32)),
         cmpf .ogt tau (constant S_ .f32 0x00000000#32),
         cmpf .olt tau (constant S_ .f32 0x7F800000#32),
         cmpf .olt (Host.absf cb) (broadcastInDim S3x1024x256 ![] Pre_plain_and_untied.Gen.bcast_S_S3x1024x256 (constant S_ .f32 0x7F800000#32)),
         cmpf .olt g (broadcastInDim S3x16384x1024 ![] Pre_plain_and_untied.Gen.bcast_S_S3x16384x1024 (constant S_ .f32 0x7F800000#32)),
         alone (perturbed (enc x w1 b1 w2 b2) (book0 cb) (noise0 g)),
         alone (perturbed (rest1 (enc x w1 b1 w2 b2) cb g) (book1 cb) (noise1 g)),
         alone (perturbed (rest2 (enc x w1 b1 w2 b2) cb g) (book2 cb) (noise2 g))) := rfl

end

/-- A comparison with the bound `M` of its row, as one or zero. -/
theorem best_of (s : FVec Ideal S16384x1024 .f32) (M : FVec Ideal S16384 .f32) (b : Fin 16384) (k : Fin 1024) :
    (select (cmpf .oeq s (broadcastInDim S16384x1024 ![0, 1] bcast_S16384x1_S16384x1024_0_1 (broadcastInDim S16384x1 ![0] bcast_S16384_S16384x1_0 M)))
      (broadcastInDim S16384x1024 ![] bcast_S_S16384x1024 (constant S_ .f32 0x3F800000#32))
      (broadcastInDim S16384x1024 ![] bcast_S_S16384x1024 (constant S_ .f32 0x00000000#32)) : FVec Ideal S16384x1024 .f32) (ix2 b k)
      = (if s (ix2 b k) = M (ix1 b) then 1 else 0 : EReal) := by
  simp only [pointwise, OfNat.ofNat_ne_one, reduceDIte, Lit.one]

theorem best_at (s : FVec Ideal S16384x1024 .f32) (b : Fin 16384) (k : Fin 1024) :
    best s (ix2 b k) = Row.mark (fun k : Fin 1024 => s (ix2 b k)) k := by
  unfold best Row.mark
  rw [best_of, rowMax_at]

/-- The comparison of a row's sum with one. -/
theorem alone_of (e : FVec Ideal S16384x1024 .f32) (b : Fin 16384) :
    cmpf .oeq (Host.reduceAdd e (constant S_ .f32 0x00000000#32) reducesTo_S16384x1024_S16384_d1 h_S_)
      (broadcastInDim S16384 ![] bcast_S_S16384 (constant S_ .f32 0x3F800000#32)) (ix1 b)
      = Ideal.cmp .oeq (∑ k : Fin 1024, e (ix2 b k)) 1 := by
  simp only [pointwise, zero_add, Lit.one]

theorem eq_of_cmp {a b : EReal} (h : Ideal.cmp .oeq a b = 1#1) : a = b := by
  by_contra e
  simp [Ideal.cmp, e] at h
theorem lt_of_cmp {a b : EReal} (h : Ideal.cmp .olt a b = 1#1) : a < b := by
  by_contra e
  simp [Ideal.cmp, e] at h
theorem gt_of_cmp {a b : EReal} (h : Ideal.cmp .ogt a b = 1#1) : b < a := by
  by_contra e
  simp [Ideal.cmp, e] at h

/-- A row that passes has one mark. -/
theorem alone_at {s : FVec Ideal S16384x1024 .f32} (h : alone s = fun _ => 1#1) (b : Fin 16384) :
    ∑ k : Fin 1024, Row.mark (fun k : Fin 1024 => s (ix2 b k)) k = 1 := by
  have e := congrFun h (ix1 b)
  unfold alone at e
  rw [alone_of] at e
  simp only [best_at] at e
  exact eq_of_cmp e

/-- The residual a layer leaves, at an entry. -/
theorem rest_of (r : FVec Ideal S16384x256 .f32) (cb : FVec Ideal S1024x256 .f32) (n : FVec Ideal S16384x1024 .f32) (b : Fin 16384) (d : Fin 256) :
    subf r (Host.dotGeneral dot_S16384x1024_S1024x256_S16384x256_1_0_0_1_n_n none n cb) (ix2 b d)
      = r (ix2 b d) - ∑ k : Fin 1024, n (ix2 b k) * cb (ix2 k d) := by
  simp only [pointwise, zero_add]

theorem rest_at (r : FVec Ideal S16384x256 .f32) (cb : FVec Ideal S1024x256 .f32) (g : FVec Ideal S16384x1024 .f32) (b : Fin 16384) (d : Fin 256) :
    rest r cb (perturbed r cb g) (ix2 b d)
      = r (ix2 b d) - Row.pick (Row.scoreR (fun d : Fin 256 => r (ix2 b d)) (fun (k : Fin 1024) d => cb (ix2 k d)) (fun k => g (ix2 b k)))
          (fun (k : Fin 1024) d => cb (ix2 k d)) d := by
  unfold rest Row.pick
  rw [rest_of]
  simp only [best_at, perturbed_at]

/-- What the precondition says of the arguments. -/
structure Plain (x : FVec Ideal S16384x768 .f32) (w1 : FVec Ideal S768x2048 .f32) (b1 : FVec Ideal S2048 .f32)
    (w2 : FVec Ideal S2048x256 .f32) (b2 : FVec Ideal S256 .f32) (c1 : FVec Ideal S2048 .f32)
    (c2 : FVec Ideal S768 .f32) (cb : FVec Ideal S3x1024x256 .f32) (g : FVec Ideal S3x16384x1024 .f32)
    (tau : FVec Ideal S_ .f32) : Prop where
  hb1 : ∀ h : Fin 2048, b1 (ix1 h) = 0
  hb2 : ∀ d : Fin 256, b2 (ix1 d) = 0
  hc1 : ∀ h : Fin 2048, c1 (ix1 h) = 0
  hc2 : ∀ i : Fin 768, c2 (ix1 i) = 0
  htau : ∃ t : ℝ, tau ix0 = (t : EReal) ∧ 0 < t
  hcb : ∀ (l : Fin 3) (k : Fin 1024) (d : Fin 256), Row.IsR (cb (ix3 l k d))
  hg : ∀ (l : Fin 3) (b : Fin 16384) (k : Fin 1024), g (ix3 l b k) ≠ ⊤
  one0 : ∀ b : Fin 16384, ∑ k : Fin 1024, Row.mark (fun k : Fin 1024 => perturbed (enc x w1 b1 w2 b2) (book0 cb) (noise0 g) (ix2 b k)) k = 1
  one1 : ∀ b : Fin 16384, ∑ k : Fin 1024, Row.mark (fun k : Fin 1024 => perturbed (rest1 (enc x w1 b1 w2 b2) cb g) (book1 cb) (noise1 g) (ix2 b k)) k = 1
  one2 : ∀ b : Fin 16384, ∑ k : Fin 1024, Row.mark (fun k : Fin 1024 => perturbed (rest2 (enc x w1 b1 w2 b2) cb g) (book2 cb) (noise2 g) (ix2 b k)) k = 1

/-- An array compared equal to zero everywhere is zero. -/
theorem zero_of {s : Shape} {v : FVec Ideal s .f32} {hb} (h : cmpf .oeq v (broadcastInDim s ![] hb (constant S_ .f32 0x00000000#32)) = fun _ => 1#1)
    (i : s.Idx) : v i = 0 := by
  have e : Ideal.cmp .oeq (v i) (Ideal.ofBits .f32 0x00000000#32) = 1#1 := congrFun h i
  rw [Lit.zero] at e
  exact eq_of_cmp e

/-- An array whose absolute values are below infinity everywhere is real. -/
theorem real_of {s : Shape} {v : FVec Ideal s .f32} {hb} (h : cmpf .olt (Host.absf v) (broadcastInDim s ![] hb (constant S_ .f32 0x7F800000#32)) = fun _ => 1#1)
    (i : s.Idx) : Row.IsR (v i) := by
  have e : Ideal.cmp .olt (max (v i) (-(v i))) (Ideal.ofBits .f32 0x7F800000#32) = 1#1 := congrFun h i
  rw [Lit.posInf] at e
  exact Row.isR_of_abs (lt_of_cmp e)

/-- An array below infinity everywhere. -/
theorem below_of {s : Shape} {v : FVec Ideal s .f32} {hb} (h : cmpf .olt v (broadcastInDim s ![] hb (constant S_ .f32 0x7F800000#32)) = fun _ => 1#1)
    (i : s.Idx) : v i ≠ ⊤ := by
  have e : Ideal.cmp .olt (v i) (Ideal.ofBits .f32 0x7F800000#32) = 1#1 := congrFun h i
  rw [Lit.posInf] at e
  exact (lt_of_cmp e).ne

/-- The precondition's conditions, read. -/
theorem plain_of {x : FVec Ideal S16384x768 .f32} {w1 : FVec Ideal S768x2048 .f32} {b1 : FVec Ideal S2048 .f32}
    {w2 : FVec Ideal S2048x256 .f32} {b2 : FVec Ideal S256 .f32} {d1 : FVec Ideal S256x2048 .f32} {c1 : FVec Ideal S2048 .f32}
    {d2 : FVec Ideal S2048x768 .f32} {c2 : FVec Ideal S768 .f32} {cb : FVec Ideal S3x1024x256 .f32} {g : FVec Ideal S3x16384x1024 .f32}
    {tau : FVec Ideal S_ .f32} (P) (hP : Cert.Pre_plain_and_untied.fn (F := Ideal) x w1 b1 w2 b2 d1 c1 d2 c2 cb g tau = P)
    (h : P.1 = (fun _ => 1#1) ∧ P.2.1 = (fun _ => 1#1) ∧ P.2.2.1 = (fun _ => 1#1) ∧ P.2.2.2.1 = (fun _ => 1#1)
      ∧ P.2.2.2.2.1 = (fun _ => 1#1) ∧ P.2.2.2.2.2.1 = (fun _ => 1#1) ∧ P.2.2.2.2.2.2.1 = (fun _ => 1#1)
      ∧ P.2.2.2.2.2.2.2.1 = (fun _ => 1#1) ∧ P.2.2.2.2.2.2.2.2.1 = (fun _ => 1#1)
      ∧ P.2.2.2.2.2.2.2.2.2.1 = (fun _ => 1#1) ∧ P.2.2.2.2.2.2.2.2.2.2 = (fun _ => 1#1)) :
    Plain x w1 b1 w2 b2 c1 c2 cb g tau := by
  rw [fn_eq] at hP
  subst hP
  dsimp only at h
  obtain ⟨h1, h2, h3, h4, h5, h6, h7, h8, h9, h10, h11⟩ := h
  have t0 : Ideal.cmp .ogt (tau ix0) (Ideal.ofBits .f32 0x00000000#32) = 1#1 := congrFun h5 ix0
  have t1 : Ideal.cmp .olt (tau ix0) (Ideal.ofBits .f32 0x7F800000#32) = 1#1 := congrFun h6 ix0
  rw [Lit.zero] at t0
  rw [Lit.posInf] at t1
  have t0 := gt_of_cmp t0
  have t1 := lt_of_cmp t1
  have ht : ∃ t : ℝ, tau ix0 = (t : EReal) ∧ 0 < t := by
    generalize tau ix0 = z at t0 t1
    induction z using EReal.rec with
    | bot => simp at t0
    | top => simp at t1
    | coe a => exact ⟨a, rfl, EReal.coe_pos.mp t0⟩
  exact ⟨fun i => zero_of h1 _, fun i => zero_of h2 _, fun i => zero_of h3 _, fun i => zero_of h4 _, ht,
    fun l k d => real_of h7 _, fun l b k => below_of h8 _, alone_at h9, alone_at h10, alone_at h11⟩

end Cert.ReferenceIdeal.Stage

end
-- ==== Proof.Ker.Body.lean ====
/- What one grid point of the kernel computes: the loss of its 1024 rows, taken in two chunks of 512. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-- The encoder on 512 rows: two matrix products with a relu between. -/
def enc (xc : Vec F S512x768 .f32) (w1 : Vec F S768x2048 .bf16) (w2 : Vec F S2048x256 .bf16) : FVec F S512x256 .f32 :=
  matmul dot_S512x2048_S2048x256_S512x256_1_0_0_1_n_n none
    (truncf .bf16
      (maximumf
        (matmul dot_S512x768_S768x2048_S512x2048_1_0_0_1_n_n none (truncf .bf16 xc bitsLt_bf16_f32)
          (shapeCast S768x2048 w1 shapeCasts_S768x2048_S768x2048) (constant S512x2048 .f32 0x00000000#32))
        (broadcast S512x2048 (Scalar.ofBits .f32 0x00000000#32)))
      bitsLt_bf16_f32)
    (shapeCast S2048x256 w2 shapeCasts_S2048x256_S2048x256) (constant S512x256 .f32 0x00000000#32)

/-- The kernel's score of every codebook entry: noise minus the entry's squared length plus twice the inner product. -/
def score (r : FVec F S512x256 .f32) (cb : Vec F S1x1024x256 .bf16) (g : Vec F S1x512x1024 .f32) (q : Vec F S1x1024 .f32) :
    FVec F S512x1024 .f32 :=
  addf
    (subf (shapeCast S512x1024 g shapeCasts_S1x512x1024_S512x1024)
      (broadcastTo S512x1024
        (shapeCast S1x1024 (shapeCast S1024 q shapeCasts_S1x1024_S1024) shapeCasts_S1024_S1x1024)
        broadcasts_S1x1024_S512x1024))
    (mulf (broadcast S512x1024 (Scalar.ofBits .f32 0x40000000#32))
      (matmul dot_S512x256_S1024x256_S512x1024_1_1_0_0_n_n none (truncf .bf16 r bitsLt_bf16_f32)
        (shapeCast S1024x256 cb shapeCasts_S1x1024x256_S1024x256) (constant S512x1024 .f32 0x00000000#32)))

/-- One where a score is its row's largest, zero elsewhere. -/
def mark (s : FVec F S512x1024 .f32) : FVec F S512x1024 .bf16 :=
  truncf .bf16
    (sitofp .f32
      (extui 32
        (cmpf .oeq s
          (broadcastTo S512x1024
            (shapeCast S512x1 (multiReduction .maximumf [1] S512 s 0xFF800000#32 reduces_S512x1024_S512 (.inl rfl) rfl)
              shapeCasts_S512_S512x1)
            broadcasts_S512x1_S512x1024))
        natLt_1_32))
    bitsLt_bf16_f32

/-- The residual after one layer: what is left once the marked codebook entries are taken away. -/
def next (r : FVec F S512x256 .f32) (cb : Vec F S1x1024x256 .bf16) (g : Vec F S1x512x1024 .f32) (q : Vec F S1x1024 .f32) :
    FVec F S512x256 .f32 :=
  subf r
    (matmul dot_S512x1024_S1024x256_S512x256_1_0_0_1_n_n none (mark (score r cb g q))
      (shapeCast S1024x256 cb shapeCasts_S1x1024x256_S1024x256) (constant S512x256 .f32 0x00000000#32))

/-- The sum of the squares of a residual block. -/
def sqsum (r : FVec F S512x256 .f32) : F .f32 :=
  extractAt ![0, 0, 0]
    (shapeCast S1x1x1
      (multiReduction .add [1, 2] S1 (shapeCast S1x512x256 (mulf r r) shapeCasts_S512x256_S1x512x256) 0x00000000#32
        reduces_S1x512x256_S1 (.inl rfl) rfl)
      shapeCasts_S1_S1x1x1)
    inpos_S1x1x1_p0_0_0

/-- The decoder on 512 rows. -/
def dec (e : FVec F S512x256 .f32) (d1 : Vec F S256x2048 .bf16) (d2 : Vec F S2048x768 .bf16) : FVec F S512x768 .f32 :=
  matmul dot_S512x2048_S2048x768_S512x768_1_0_0_1_n_n none
    (truncf .bf16
      (maximumf
        (matmul dot_S512x256_S256x2048_S512x2048_1_0_0_1_n_n none (truncf .bf16 e bitsLt_bf16_f32)
          (shapeCast S256x2048 d1 shapeCasts_S256x2048_S256x2048) (constant S512x2048 .f32 0x00000000#32))
        (broadcast S512x2048 (Scalar.ofBits .f32 0x00000000#32)))
      bitsLt_bf16_f32)
    (shapeCast S2048x768 d2 shapeCasts_S2048x768_S2048x768) (constant S512x768 .f32 0x00000000#32)

/-- The sum of the squares of the reconstruction error. -/
def recon (xh xc : FVec F S512x768 .f32) : F .f32 :=
  extractAt ![0, 0, 0]
    (shapeCast S1x1x1
      (multiReduction .add [1, 2] S1
        (shapeCast S1x512x768 (mulf (subf xh xc) (subf xh xc)) shapeCasts_S512x768_S1x512x768) 0x00000000#32
        reduces_S1x512x768_S1 (.inl rfl) rfl)
      shapeCasts_S1_S1x1x1)
    inpos_S1x1x1_p0_0_0

/-- A running total with one chunk's loss added, given the chunk's three layers' residuals. -/
def close (acc : F .f32) (xc : Vec F S512x768 .f32) (d1 : Vec F S256x2048 .bf16) (d2 : Vec F S2048x768 .bf16)
    (r0 r1 r2 r3 : FVec F S512x256 .f32) : F .f32 :=
  Scalar.addf (Scalar.addf acc (recon (dec (subf r0 r3) d1 d2) xc))
    (Scalar.mulf (Scalar.ofBits .f32 0x3FA00000#32)
      (Scalar.addf (Scalar.addf (Scalar.addf (Scalar.ofBits .f32 0x00000000#32) (sqsum r1)) (sqsum r2)) (sqsum r3)))

/-- A running total with one chunk's loss added. -/
def chunk (acc : F .f32) (xc : Vec F S512x768 .f32) (w1 : Vec F S768x2048 .bf16) (w2 : Vec F S2048x256 .bf16)
    (d1 : Vec F S256x2048 .bf16) (d2 : Vec F S2048x768 .bf16) (b0 b1 b2 : Vec F S1x1024x256 .bf16)
    (g0 g1 g2 : Vec F S1x512x1024 .f32) (q0 q1 q2 : Vec F S1x1024 .f32) : F .f32 :=
  close acc xc d1 d2 (enc xc w1 w2) (next (enc xc w1 w2) b0 g0 q0) (next (next (enc xc w1 w2) b0 g0 q0) b1 g1 q1)
    (next (next (next (enc xc w1 w2) b0 g0 q0) b1 g1 q1) b2 g2 q2)

/-- Layer 0 of the codebooks. -/
def cbk0 (x : Vec F S3x1024x256 .bf16) : Vec F S1x1024x256 .bf16 :=
  View.ld x (Rect.unit ![0, 0, 0] ![1, 1024, 256] inb_S3x1024x256_S1x1024x256_0_0_0)
/-- Layer 1 of the codebooks. -/
def cbk1 (x : Vec F S3x1024x256 .bf16) : Vec F S1x1024x256 .bf16 :=
  View.ld x (Rect.unit ![1, 0, 0] ![1, 1024, 256] inb_S3x1024x256_S1x1024x256_1_0_0)
/-- Layer 2 of the codebooks. -/
def cbk2 (x : Vec F S3x1024x256 .bf16) : Vec F S1x1024x256 .bf16 :=
  View.ld x (Rect.unit ![2, 0, 0] ![1, 1024, 256] inb_S3x1024x256_S1x1024x256_2_0_0)
/-- Layer 0 of the squared lengths. -/
def len0 (x : Vec F S3x1024 .f32) : Vec F S1x1024 .f32 := View.ld x (Rect.unit ![0, 0] ![1, 1024] inb_S3x1024_S1x1024_0_0)
/-- Layer 1 of the squared lengths. -/
def len1 (x : Vec F S3x1024 .f32) : Vec F S1x1024 .f32 := View.ld x (Rect.unit ![1, 0] ![1, 1024] inb_S3x1024_S1x1024_1_0)
/-- Layer 2 of the squared lengths. -/
def len2 (x : Vec F S3x1024 .f32) : Vec F S1x1024 .f32 := View.ld x (Rect.unit ![2, 0] ![1, 1024] inb_S3x1024_S1x1024_2_0)

/-- The loss of one grid point's 1024 rows, given the three rows of squared lengths: chunk one, then chunk two. -/
def tileQ (x0 : Vec F S1024x768 .f32) (x1 : Vec F S768x2048 .bf16) (x2 : Vec F S2048x256 .bf16) (x3 : Vec F S256x2048 .bf16)
    (x4 : Vec F S2048x768 .bf16) (x5 : Vec F S3x1024x256 .bf16) (x6 : Vec F S3x1024x1024 .f32) (q0 q1 q2 : Vec F S1x1024 .f32) :
    F .f32 :=
  chunk
    (chunk (Scalar.ofBits .f32 0x00000000#32) (View.ld x0 (Rect.unit ![0, 0] ![512, 768] inb_S1024x768_S512x768_0_0)) x1 x2 x3 x4
      (cbk0 x5) (cbk1 x5) (cbk2 x5)
      (View.ld x6 (Rect.unit ![0, 0, 0] ![1, 512, 1024] inb_S3x1024x1024_S1x512x1024_0_0_0))
      (View.ld x6 (Rect.unit ![1, 0, 0] ![1, 512, 1024] inb_S3x1024x1024_S1x512x1024_1_0_0))
      (View.ld x6 (Rect.unit ![2, 0, 0] ![1, 512, 1024] inb_S3x1024x1024_S1x512x1024_2_0_0)) q0 q1 q2)
    (View.ld x0 (Rect.unit ![512, 0] ![512, 768] inb_S1024x768_S512x768_512_0)) x1 x2 x3 x4 (cbk0 x5) (cbk1 x5) (cbk2 x5)
    (View.ld x6 (Rect.unit ![0, 512, 0] ![1, 512, 1024] inb_S3x1024x1024_S1x512x1024_0_512_0))
    (View.ld x6 (Rect.unit ![1, 512, 0] ![1, 512, 1024] inb_S3x1024x1024_S1x512x1024_1_512_0))
    (View.ld x6 (Rect.unit ![2, 512, 0] ![1, 512, 1024] inb_S3x1024x1024_S1x512x1024_2_512_0)) q0 q1 q2

/-- The loss of one grid point's 1024 rows. -/
def tile (x0 : Vec F S1024x768 .f32) (x1 : Vec F S768x2048 .bf16) (x2 : Vec F S2048x256 .bf16) (x3 : Vec F S256x2048 .bf16)
    (x4 : Vec F S2048x768 .bf16) (x5 : Vec F S3x1024x256 .bf16) (x6 : Vec F S3x1024x1024 .f32) (xs : Vec F S3x1024 .f32) :
    F .f32 := tileQ x0 x1 x2 x3 x4 x5 x6 (len0 xs) (len1 xs) (len2 xs)

/-- The output cell with a point's loss added. -/
def bump (xo : Vec F S1x1 .f32) (t : F .f32) : FVec F S1x1 .f32 :=
  addf (shapeCast S1x1 xo shapeCasts_S1x1_S1x1) (broadcast S1x1 t)

/-- The squared lengths of all the codebook entries, as the first point stores them. -/
def lens (x5 : Vec F S3x1024x256 .bf16) : FVec F S3x1024 .f32 := k0_pay2 x5

theorem hz2 : (![0, 0] : Fin 2 → ℕ) = fun _ => 0 := by
  funext a; match a with | ⟨0, _⟩ => rfl | ⟨1, _⟩ => rfl
theorem hz3 : (![0, 0, 0] : Fin 3 → ℕ) = fun _ => 0 := by
  funext a; match a with | ⟨0, _⟩ => rfl | ⟨1, _⟩ => rfl | ⟨2, _⟩ => rfl

theorem ld_w1 (x : Vec F S768x2048 .bf16) : View.ld x (Rect.unit ![0, 0] ![768, 2048] inb_S768x2048_S768x2048_0_0) = x :=
  View.ld_unit_zero hz2 _ x
theorem ld_w2 (x : Vec F S2048x256 .bf16) : View.ld x (Rect.unit ![0, 0] ![2048, 256] inb_S2048x256_S2048x256_0_0) = x :=
  View.ld_unit_zero hz2 _ x
theorem ld_d1 (x : Vec F S256x2048 .bf16) : View.ld x (Rect.unit ![0, 0] ![256, 2048] inb_S256x2048_S256x2048_0_0) = x :=
  View.ld_unit_zero hz2 _ x
theorem ld_d2 (x : Vec F S2048x768 .bf16) : View.ld x (Rect.unit ![0, 0] ![2048, 768] inb_S2048x768_S2048x768_0_0) = x :=
  View.ld_unit_zero hz2 _ x
theorem ld_out (x : Vec F S1x1 .f32) : View.ld x (Rect.unit ![0, 0] ![1, 1] inb_S1x1_S1x1_0_0) = x := View.ld_unit_zero hz2 _ x
theorem ld_cb (x : Vec F S3x1024x256 .bf16) :
    View.ld x (Rect.unit ![0, 0, 0] ![3, 1024, 256] inb_S3x1024x256_S3x1024x256_0_0_0) = x := View.ld_unit_zero hz3 _ x

/-- A later point leaves in the output cell what was there with its own loss added. -/
theorem out_B (c : Dev nD) (i : grid0.Coords) (a1 : Memref sig .tc .vmem S1024x768 .f32) (h1 : a1.IsWhole) (a2 : Memref sig .tc .vmem S768x2048 .bf16) (h2 : a2.IsWhole) (a3 : Memref sig .tc .vmem S2048x256 .bf16) (h3 : a3.IsWhole) (a4 : Memref sig .tc .vmem S256x2048 .bf16) (h4 : a4.IsWhole) (a5 : Memref sig .tc .vmem S2048x768 .bf16) (h5 : a5.IsWhole) (a6 : Memref sig .tc .vmem S3x1024x256 .bf16) (h6 : a6.IsWhole) (a7 : Memref sig .tc .vmem S3x1024x1024 .f32) (h7 : a7.IsWhole) (a8 : Memref sig .tc .vmem S1x1 .f32) (h8 : a8.IsWhole) (a9 : Memref sig .tc .vmem S3x1024 .f32) (h9 : a9.IsWhole) (hc : ¬cond0_0 i)
    (x0 : Vec F S1024x768 .f32) (x1 : Vec F S768x2048 .bf16) (x2 : Vec F S2048x256 .bf16) (x3 : Vec F S256x2048 .bf16) (x4 : Vec F S2048x768 .bf16) (x5 : Vec F S3x1024x256 .bf16) (x6 : Vec F S3x1024x1024 .f32) (xo : Vec F S1x1 .f32) (xs : Vec F S3x1024 .f32) :
    out0_B_7 c i a1 h1 a2 h2 a3 h3 a4 h4 a5 h5 a6 h6 a7 h7 a8 h8 a9 h9 hc x0 x1 x2 x3 x4 x5 x6 xo xs
      = bump xo (tile x0 x1 x2 x3 x4 x5 x6 xs) := by
  unfold out0_B_7
  rw [View.read_writes_eq_canon _ _ _ (cover0_B_7 c i a1 h1 a2 h2 a3 h3 a4 h4 a5 h5 a6 h6 a7 h7 a8 h8 a9 h9 hc x0 x1 x2 x3 x4 x5 x6 xo xs)]
  unfold kernelRun0_B
  dsimp only
  sl_unfold_words
  rw [View.canon_unit_zero hz2]
  simp only [View.readAt_eq_ld, Memref.IsWhole.read_unread, ld_w1, ld_w2, ld_d1, ld_d2, ld_out]
  rfl

/-- What a load returns once a buffer has been stored over whole: the stored value at the load's indices. -/
theorem readCov_whole {S : Shape} {e : EltTy} [∀ e, Nonempty (Elt F e)] (v : View sig .tc .vmem S e) {off : Fin S.rank → ℕ}
    (h : off = fun _ => 0) (inb : ∀ a, off a + S.size a ≤ S.size a) (w : S.Idx → Elt F e) (r : Rect S) :
    v.readCov [(⟨Rect.unit off S.size inb, w⟩ : View.Piece (Elt F) S e)] r.toLoadRect = View.ld w r := by
  rw [View.readCov_eq_canon_ld _ _ _ (fun y => ⟨_, List.mem_singleton_self _, View.mem_set_unit_zero h inb y⟩),
    View.canon_unit_zero h]

/-- The first point stores the squared lengths of the codebook entries. -/
theorem sout_A (c : Dev nD) (i : grid0.Coords) (a1 : Memref sig .tc .vmem S1024x768 .f32) (h1 : a1.IsWhole) (a2 : Memref sig .tc .vmem S768x2048 .bf16) (h2 : a2.IsWhole) (a3 : Memref sig .tc .vmem S2048x256 .bf16) (h3 : a3.IsWhole) (a4 : Memref sig .tc .vmem S256x2048 .bf16) (h4 : a4.IsWhole) (a5 : Memref sig .tc .vmem S2048x768 .bf16) (h5 : a5.IsWhole) (a6 : Memref sig .tc .vmem S3x1024x256 .bf16) (h6 : a6.IsWhole) (a7 : Memref sig .tc .vmem S3x1024x1024 .f32) (h7 : a7.IsWhole) (a8 : Memref sig .tc .vmem S1x1 .f32) (h8 : a8.IsWhole) (a9 : Memref sig .tc .vmem S3x1024 .f32) (h9 : a9.IsWhole) (hc : cond0_0 i)
    (x0 : Vec F S1024x768 .f32) (x1 : Vec F S768x2048 .bf16) (x2 : Vec F S2048x256 .bf16) (x3 : Vec F S256x2048 .bf16) (x4 : Vec F S2048x768 .bf16) (x5 : Vec F S3x1024x256 .bf16) (x6 : Vec F S3x1024x1024 .f32) :
    sout0_A_0 c i a1 h1 a2 h2 a3 h3 a4 h4 a5 h5 a6 h6 a7 h7 a8 h8 a9 h9 hc x0 x1 x2 x3 x4 x5 x6 = lens x5 := by
  unfold sout0_A_0
  rw [View.read_writes_eq_canon _ _ _ (scover0_A_0 c i a1 h1 a2 h2 a3 h3 a4 h4 a5 h5 a6 h6 a7 h7 a8 h8 a9 h9 hc x0 x1 x2 x3 x4 x5 x6)]
  unfold kernelRun0_A
  dsimp only
  sl_unfold_words
  rw [View.canon_unit_zero hz2]
  simp only [View.readAt_eq_ld, Memref.IsWhole.read_unread, ld_cb]
  rfl

/-- The first point leaves its own loss added to zero. -/
theorem out_A (c : Dev nD) (i : grid0.Coords) (a1 : Memref sig .tc .vmem S1024x768 .f32) (h1 : a1.IsWhole) (a2 : Memref sig .tc .vmem S768x2048 .bf16) (h2 : a2.IsWhole) (a3 : Memref sig .tc .vmem S2048x256 .bf16) (h3 : a3.IsWhole) (a4 : Memref sig .tc .vmem S256x2048 .bf16) (h4 : a4.IsWhole) (a5 : Memref sig .tc .vmem S2048x768 .bf16) (h5 : a5.IsWhole) (a6 : Memref sig .tc .vmem S3x1024x256 .bf16) (h6 : a6.IsWhole) (a7 : Memref sig .tc .vmem S3x1024x1024 .f32) (h7 : a7.IsWhole) (a8 : Memref sig .tc .vmem S1x1 .f32) (h8 : a8.IsWhole) (a9 : Memref sig .tc .vmem S3x1024 .f32) (h9 : a9.IsWhole) (hc : cond0_0 i)
    (x0 : Vec F S1024x768 .f32) (x1 : Vec F S768x2048 .bf16) (x2 : Vec F S2048x256 .bf16) (x3 : Vec F S256x2048 .bf16) (x4 : Vec F S2048x768 .bf16) (x5 : Vec F S3x1024x256 .bf16) (x6 : Vec F S3x1024x1024 .f32) :
    out0_A_7 c i a1 h1 a2 h2 a3 h3 a4 h4 a5 h5 a6 h6 a7 h7 a8 h8 a9 h9 hc x0 x1 x2 x3 x4 x5 x6
      = bump k0_pay3 (tile x0 x1 x2 x3 x4 x5 x6 (lens x5)) := by
  unfold out0_A_7
  rw [View.read_writes_eq_canon _ _ _ (cover0_A_7 c i a1 h1 a2 h2 a3 h3 a4 h4 a5 h5 a6 h6 a7 h7 a8 h8 a9 h9 hc x0 x1 x2 x3 x4 x5 x6)]
  unfold kernelRun0_A
  dsimp only
  sl_unfold_words
  rw [View.canon_cons_unit_zero hz2, View.readCov_unit_zero (S := S1x1) _ hz2]
  simp only [readCov_whole (S := S3x1024) _ hz2]
  simp only [View.readAt_eq_ld, Memref.IsWhole.read_unread, ld_w1, ld_w2, ld_d1, ld_d2, ld_out, ld_cb]
  rfl

end Cert.KernelIdeal.Body

end
-- ==== Proof.Ker.Run.lean ====
/- What the kernel leaves in its result: the sum, in order, of the sixteen points' losses, divided by the batch size. -/
module

public import proofs.«01_k».proof.Proof.Ker.Body
public import Idealize.ShloMosaic.Lib.Pipeline.ValueKit
public import Idealize.ShloMosaic.Lib.Claim
public import Idealize.ShloMosaic.Lib.ValueIdx

@[expose] public section

set_option maxRecDepth 16384

noncomputable section

namespace Cert.KernelIdeal.Body

open Cert.KernelIdeal Cert.KernelIdeal.Gen Idealize.ShloMosaic.TcCoe Idealize.SL.Sem
open Idealize.ShloMosaic hiding ix0 ix1 ix2 ix3 ix4
open Idealize.ShloMosaic.Pipeline (Dat)
open Idealize.ShloMosaic.ValueIdx

variable {F : FTy → Type} [FloatOps F]
variable (m : (ℓ : Loc nD τ sig) → Buf (Elt F) ℓ) (ρ : Dev nD → PrngReg)

theorem pos0 : 0 < cfg0.N := by rw [show cfg0.N = 16 from N_0]; decide

/-- The loss of grid point `t`. -/
def tileAt (c : Dev nD) (t : Fin cfg0.N) : F .f32 :=
  tile (iblk m c 0 t) (iblk m c 1 t) (iblk m c 2 t) (iblk m c 3 t) (iblk m c 4 t) (iblk m c 5 t) (iblk m c 6 t)
    (lens (iblk m c 5 ⟨0, pos0⟩))

/-- The output cell after point `n`: zero with the losses of points `0, …, n` added in order. -/
def chain (c : Dev nD) : (n : ℕ) → n < cfg0.N → Vec F S1x1 .f32
  | 0, h => bump k0_pay3 (tileAt m c ⟨0, h⟩)
  | n + 1, h => bump (chain c n (Nat.lt_of_succ_lt h)) (tileAt m c ⟨n + 1, h⟩)

/-- What the output cell and the scratch hold after point `n`. -/
theorem outsAt_eq (c : Dev nD) : ∀ (n : ℕ) (h : n < cfg0.N),
    outsAt0 m c n h = (chain m c n h, lens (iblk m c 5 ⟨0, pos0⟩))
  | 0, h => by
    rw [show outsAt0 m c 0 h = _ from outsAt0_A m c ⟨0, h⟩ rfl, out_A, sout_A]
    rfl
  | n + 1, h => by
    have hN : cfg0.N = 16 := N_0
    have hB : ¬(⟨n + 1, h⟩ : Fin cfg0.N).val % 16 = 0 := by dsimp only; omega
    rw [show outsAt0 m c (n + 1) h = _ from outsAt0_B m c ⟨n + 1, h⟩ hB, out_B]
    unfold sout0_B_0
    have e := outsAt_eq c n (Nat.lt_of_succ_lt h)
    show (bump (outsAt0 m c n _).1 (tile _ _ _ _ _ _ _ (outsAt0 m c n _).2), (outsAt0 m c n _).2) = _
    rw [e]
    rfl

/-- The output cell after the last point. -/
def last (c : Dev nD) : Vec F S1x1 .f32 := chain m c 15 (by rw [show cfg0.N = 16 from N_0]; decide)

/-- The region's result array ends holding it. -/
theorem final_o (c : Dev nD) : (dats m 0 c).arrAt 7 cfg0.N = last m c := by
  refine (dats m 0 c).arrAt_eq_of_after_last 7 t0_15 (by decide +kernel) _ fun j => ?_
  blk_simp
  rw [after0_7, outsAt_eq]
  rfl

/-- The result: that cell, reshaped to a number, divided by 16384. -/
def result (c : Dev nD) : Vec F S_ .f32 :=
  Host.divf (shapeCast S_ (last m c) shapeCasts_S1x1_S_) (constant S_ .f32 0x46800000#32)

/-- The kernel's run: the result buffer holds the result. -/
theorem run : θ_run defs (onTc (τ := τ) (main (F := F))) ⟨m, fun _ => 0, ρ⟩ fun r => ∀ c : Dev nD,
    r.2.mem ((c : Thread nD τ).loc main_v0) = result m c := by
  run_from run_main m ρ
  have e : Pipeline.withArrays (cfgs 0).spec c (V0 m c) (fun w => (dats m 0 c).arrAt w (cfgs 0).N)
      (Proc.tc.devRef main_call0_v5) = last m c :=
    (Pipeline.withArrays_arr (cfgs 0).spec (by decide) c (V0 m c) (fun w => (dats m 0 c).arrAt w (cfgs 0).N) 7).trans (final_o m c)
  unfold Pipeline.afterTail₀
  show StableHlo.after hostOps1 _ _ = _
  unfold hostOps1
  after_results
  rw [e]
  rfl

theorem idx0 : ∀ t : Fin cfg0.N, win0_0.index t = ![t.val, 0] := (by decide +kernel : ∀ t : Fin grid0.N, win0_0.index t = ![t.val, 0])
theorem idx6 : ∀ t : Fin cfg0.N, win0_6.index t = ![0, t.val, 0] := (by decide +kernel : ∀ t : Fin grid0.N, win0_6.index t = ![0, t.val, 0])
theorem idx1 : ∀ t : Fin cfg0.N, win0_1.index t = ![0, 0] := (by decide +kernel : ∀ t : Fin grid0.N, win0_1.index t = ![0, 0])
theorem idx2 : ∀ t : Fin cfg0.N, win0_2.index t = ![0, 0] := (by decide +kernel : ∀ t : Fin grid0.N, win0_2.index t = ![0, 0])
theorem idx3 : ∀ t : Fin cfg0.N, win0_3.index t = ![0, 0] := (by decide +kernel : ∀ t : Fin grid0.N, win0_3.index t = ![0, 0])
theorem idx4 : ∀ t : Fin cfg0.N, win0_4.index t = ![0, 0] := (by decide +kernel : ∀ t : Fin grid0.N, win0_4.index t = ![0, 0])
theorem idx5 : ∀ t : Fin cfg0.N, win0_5.index t = ![0, 0, 0] := (by decide +kernel : ∀ t : Fin grid0.N, win0_5.index t = ![0, 0, 0])

/-- Point `t`'s block of the batch: its rows `1024 t, …, 1024 t + 1023`. -/
theorem iblk_x (c : Dev nD) (t : Fin cfg0.N) (p : Fin 1024) (q : Fin 768) (r : Fin 16384) (hr : r.val = 1024 * t.val + p.val) :
    (iblk m c 0 t : Vec F S1024x768 .f32) (ix2 p q) = (m ((c : Thread nD τ).loc main_arg0) : Vec F S16384x768 .f32) (ix2 r q) := by
  blk_simp [iblk]
  have e : (win0_0.blk t).view.emb (ix2 p q : S1024x768.Idx) = (ix2 r q : S16384x768.Idx) := by
    funext a; apply Fin.ext
    match a with
    | ⟨0, _⟩ => blk_simp [idx0]; show t.val * 1024 + p.val = r.val; omega
    | ⟨1, _⟩ => blk_simp [idx0]
  rw [e]
  unfold V
  after_results
  rfl

/-- Point `t`'s block of the noise: the same rows, in every layer. -/
theorem iblk_g (c : Dev nD) (t : Fin cfg0.N) (l : Fin 3) (p : Fin 1024) (q : Fin 1024) (r : Fin 16384)
    (hr : r.val = 1024 * t.val + p.val) :
    (iblk m c 6 t : Vec F S3x1024x1024 .f32) (ix3 l p q)
      = (m ((c : Thread nD τ).loc main_arg10) : Vec F S3x16384x1024 .f32) (ix3 l r q) := by
  blk_simp [iblk]
  have e : (win0_6.blk t).view.emb (ix3 l p q : S3x1024x1024.Idx) = (ix3 l r q : S3x16384x1024.Idx) := by
    funext a; apply Fin.ext
    match a with
    | ⟨0, _⟩ => blk_simp [idx6]
    | ⟨1, _⟩ => blk_simp [idx6]; show t.val * 1024 + p.val = r.val; omega
    | ⟨2, _⟩ => blk_simp [idx6]
  rw [e]
  unfold V
  after_results
  rfl

/-- Point `t`'s block of the first encoder matrix: all of it, rounded. -/
theorem iblk_w1 (c : Dev nD) (t : Fin cfg0.N) :
    (iblk m c 1 t : Vec F S768x2048 .bf16)
      = truncf .bf16 (m ((c : Thread nD τ).loc main_arg1) : Vec F S768x2048 .f32) bitsLt_bf16_f32 := by
  funext j
  blk_simp [iblk]
  have e : (win0_1.blk t).view.emb j = j := by
    funext a; apply Fin.ext
    match a with
    | ⟨0, _⟩ => blk_simp [idx1]
    | ⟨1, _⟩ => blk_simp [idx1]
  rw [e]
  unfold V
  after_results
  rfl

/-- Point `t`'s block of the second encoder matrix: all of it, rounded. -/
theorem iblk_w2 (c : Dev nD) (t : Fin cfg0.N) :
    (iblk m c 2 t : Vec F S2048x256 .bf16)
      = truncf .bf16 (m ((c : Thread nD τ).loc main_arg3) : Vec F S2048x256 .f32) bitsLt_bf16_f32 := by
  funext j
  blk_simp [iblk]
  have e : (win0_2.blk t).view.emb j = j := by
    funext a; apply Fin.ext
    match a with
    | ⟨0, _⟩ => blk_simp [idx2]
    | ⟨1, _⟩ => blk_simp [idx2]
  rw [e]
  unfold V
  after_results
  rfl

/-- Point `t`'s block of the first decoder matrix: all of it, rounded. -/
theorem iblk_d1 (c : Dev nD) (t : Fin cfg0.N) :
    (iblk m c 3 t : Vec F S256x2048 .bf16)
      = truncf .bf16 (m ((c : Thread nD τ).loc main_arg5) : Vec F S256x2048 .f32) bitsLt_bf16_f32 := by
  funext j
  blk_simp [iblk]
  have e : (win0_3.blk t).view.emb j = j := by
    funext a; apply Fin.ext
    match a with
    | ⟨0, _⟩ => blk_simp [idx3]
    | ⟨1, _⟩ => blk_simp [idx3]
  rw [e]
  unfold V
  after_results
  rfl

/-- Point `t`'s block of the second decoder matrix: all of it, rounded. -/
theorem iblk_d2 (c : Dev nD) (t : Fin cfg0.N) :
    (iblk m c 4 t : Vec F S2048x768 .bf16)
      = truncf .bf16 (m ((c : Thread nD τ).loc main_arg7) : Vec F S2048x768 .f32) bitsLt_bf16_f32 := by
  funext j
  blk_simp [iblk]
  have e : (win0_4.blk t).view.emb j = j := by
    funext a; apply Fin.ext
    match a with
    | ⟨0, _⟩ => blk_simp [idx4]
    | ⟨1, _⟩ => blk_simp [idx4]
  rw [e]
  unfold V
  after_results
  rfl

/-- Point `t`'s block of the codebooks: all of it, rounded. -/
theorem iblk_cb (c : Dev nD) (t : Fin cfg0.N) :
    (iblk m c 5 t : Vec F S3x1024x256 .bf16)
      = truncf .bf16 (m ((c : Thread nD τ).loc main_arg9) : Vec F S3x1024x256 .f32) bitsLt_bf16_f32 := by
  funext j
  blk_simp [iblk]
  have e : (win0_5.blk t).view.emb j = j := by
    funext a; apply Fin.ext
    match a with
    | ⟨0, _⟩ => blk_simp [idx5]
    | ⟨1, _⟩ => blk_simp [idx5]
    | ⟨2, _⟩ => blk_simp [idx5]
  rw [e]
  unfold V
  after_results
  rfl

end Cert.KernelIdeal.Body

end
-- ==== Proof.Ker.Val.lean ====
/- The kernel's chunk read at the extended reals: the loss of every one of its 512 rows, added up. -/
module

public import proofs.«01_k».proof.Proof.Ker.Body
public import proofs.«01_k».proof.Proof.Row
public import proofs.«01_k».proof.Proof.Lit
public import Idealize.ShloMosaic.Lib.Pointwise

@[expose] public section

set_option maxRecDepth 16384

noncomputable section

namespace Cert.KernelIdeal.Body

open Cert.KernelIdeal Cert.KernelIdeal.Gen Idealize.ShloMosaic

/-- The encoder at an entry. -/
theorem enc_at (xc : Vec Ideal S512x768 .f32) (w1 : Vec Ideal S768x2048 .bf16) (w2 : Vec Ideal S2048x256 .bf16) (p : Fin 512) (d : Fin 256) :
    enc xc w1 w2 (ix2 p d) = Row.mlp (fun i h => w1 (ix2 i h)) (fun h d => w2 (ix2 h d)) (fun i => xc (ix2 p i)) d := by
  unfold enc
  simp only [pointwise, zero_add]
  rfl

/-- The decoder at an entry. -/
theorem dec_at (e : FVec Ideal S512x256 .f32) (d1 : Vec Ideal S256x2048 .bf16) (d2 : Vec Ideal S2048x768 .bf16) (p : Fin 512) (i : Fin 768) :
    dec e d1 d2 (ix2 p i) = Row.mlp (fun d h => d1 (ix2 d h)) (fun h i => d2 (ix2 h i)) (fun d => e (ix2 p d)) i := by
  unfold dec
  simp only [pointwise, zero_add]
  rfl

/-- The score at an entry. -/
theorem score_at (r : FVec Ideal S512x256 .f32) (cb : Vec Ideal S1x1024x256 .bf16) (g : Vec Ideal S1x512x1024 .f32) (q : Vec Ideal S1x1024 .f32) (p : Fin 512) (k : Fin 1024) :
    score r cb g q (ix2 p k) = (g (ix3 0 p k) - q (ix2 0 k)) + 2 * ∑ d : Fin 256, r (ix2 p d) * cb (ix3 0 k d) := by
  unfold score
  simp only [pointwise, zero_add, Lit.two]
  rfl

/-- The mark at an entry. -/
theorem mark_at (s : FVec Ideal S512x1024 .f32) (p : Fin 512) (k : Fin 1024) :
    mark s (ix2 p k) = Row.mark (fun k : Fin 1024 => s (ix2 p k)) k := by
  unfold mark Row.mark Row.top
  simp only [pointwise, Lit.negInf]
  show FloatOps.sitofp .f32 (BitVec.setWidth 32 (BitVec.ofBool (decide (s (ix2 p k) = Finset.univ.sup fun k => s (ix2 p k))))) = _
  by_cases h : s (ix2 p k) = Finset.univ.sup fun k => s (ix2 p k)
  · rw [if_pos h, decide_eq_true h]; simp [FloatOps.sitofp]
  · rw [if_neg h, decide_eq_false h]; simp [FloatOps.sitofp]

/-- The residual a layer leaves, at a row. -/
theorem next_at (r : FVec Ideal S512x256 .f32) (cb : Vec Ideal S1x1024x256 .bf16) (g : Vec Ideal S1x512x1024 .f32) (q : Vec Ideal S1x1024 .f32)
    (hq : ∀ k : Fin 1024, q (ix2 0 k) = ∑ d : Fin 256, cb (ix3 0 k d) * cb (ix3 0 k d)) (p : Fin 512) :
    (fun d : Fin 256 => next r cb g q (ix2 p d))
      = Row.nextK (fun (k : Fin 1024) (d : Fin 256) => cb (ix3 0 k d)) (fun k : Fin 1024 => g (ix3 0 p k)) (fun d : Fin 256 => r (ix2 p d)) := by
  funext d
  unfold next
  simp only [pointwise, zero_add, mark_at, score_at, hq]
  rfl

/-- The sum of the squares of a block, row by row. -/
theorem sqsum_at (s : FVec Ideal S512x256 .f32) : sqsum s = ∑ p : Fin 512, Row.sq fun k : Fin 256 => s (ix2 p k) := by
  unfold sqsum
  simp only [pointwise]
  rfl

/-- The reconstruction error of a block, row by row. -/
theorem recon_at (a b : FVec Ideal S512x768 .f32) : recon a b = ∑ p : Fin 512, Row.sq fun i : Fin 768 => a (ix2 p i) - b (ix2 p i) := by
  unfold recon
  simp only [pointwise]
  rfl

/-- A sum over rows of a row's loss is the losses' sums. -/
theorem sum_lossK {P D H I : Type} [Fintype P] [Fintype D] [Fintype H] [Fintype I] (x : P → I → EReal) (w : D → H → EReal)
    (v : H → I → EReal) (r0 r1 r2 r3 : P → D → EReal) :
    ∑ p, Row.lossK (x p) w v (r0 p) (r1 p) (r2 p) (r3 p)
      = (∑ p, Row.recon (x p) w v fun d => r0 p d - r3 p d)
        + Row.beta * ((∑ p, Row.sq (r1 p) + ∑ p, Row.sq (r2 p)) + ∑ p, Row.sq (r3 p)) := by
  unfold Row.lossK
  have hn (p : P) : 0 ≤ Row.sq (r1 p) + Row.sq (r2 p) + Row.sq (r3 p) :=
    add_nonneg (add_nonneg (Row.sq_nonneg' _) (Row.sq_nonneg' _)) (Row.sq_nonneg' _)
  rw [Finset.sum_add_distrib, ← Row.mul_sum' _ _ _ hn, Finset.sum_add_distrib, Finset.sum_add_distrib]

/-- A chunk adds the losses of its rows. -/
theorem chunk_at (acc : Ideal .f32) (xc : Vec Ideal S512x768 .f32) (w1 : Vec Ideal S768x2048 .bf16) (w2 : Vec Ideal S2048x256 .bf16)
    (d1 : Vec Ideal S256x2048 .bf16) (d2 : Vec Ideal S2048x768 .bf16) (b0 b1 b2 : Vec Ideal S1x1024x256 .bf16)
    (g0 g1 g2 : Vec Ideal S1x512x1024 .f32) (q0 q1 q2 : Vec Ideal S1x1024 .f32)
    (h0 : ∀ k : Fin 1024, q0 (ix2 0 k) = ∑ d : Fin 256, b0 (ix3 0 k d) * b0 (ix3 0 k d))
    (h1 : ∀ k : Fin 1024, q1 (ix2 0 k) = ∑ d : Fin 256, b1 (ix3 0 k d) * b1 (ix3 0 k d))
    (h2 : ∀ k : Fin 1024, q2 (ix2 0 k) = ∑ d : Fin 256, b2 (ix3 0 k d) * b2 (ix3 0 k d)) :
    chunk acc xc w1 w2 d1 d2 b0 b1 b2 g0 g1 g2 q0 q1 q2
      = acc + ∑ p : Fin 512, Row.rowK (fun i : Fin 768 => xc (ix2 p i)) (fun (i : Fin 768) (h : Fin 2048) => w1 (ix2 i h))
          (fun (h : Fin 2048) (d : Fin 256) => w2 (ix2 h d)) (fun (d : Fin 256) (h : Fin 2048) => d1 (ix2 d h))
          (fun (h : Fin 2048) (i : Fin 768) => d2 (ix2 h i))
          (fun (k : Fin 1024) (d : Fin 256) => b0 (ix3 0 k d)) (fun (k : Fin 1024) (d : Fin 256) => b1 (ix3 0 k d))
          (fun (k : Fin 1024) (d : Fin 256) => b2 (ix3 0 k d))
          (fun k : Fin 1024 => g0 (ix3 0 p k)) (fun k : Fin 1024 => g1 (ix3 0 p k)) (fun k : Fin 1024 => g2 (ix3 0 p k)) := by
  have e0 (p : Fin 512) : (fun d : Fin 256 => enc xc w1 w2 (ix2 p d))
      = Row.mlp (fun i h => w1 (ix2 i h)) (fun h d => w2 (ix2 h d)) (fun i => xc (ix2 p i)) := funext fun d => enc_at xc w1 w2 p d
  unfold Row.rowK
  rw [sum_lossK, ← add_assoc]
  simp only [← e0, ← next_at _ b0 g0 q0 h0, ← next_at _ b1 g1 q1 h1, ← next_at _ b2 g2 q2 h2]
  unfold chunk close
  rw [recon_at, sqsum_at, sqsum_at, sqsum_at]
  simp only [dec_at]
  show (acc + _) + Ideal.ofBits .f32 0x3FA00000#32 * (((Ideal.ofBits .f32 0x00000000#32 + _) + _) + _) = _
  rw [Lit.fiveQuarters, show Ideal.ofBits .f32 0x00000000#32 = 0 by simp [Ideal.ofBits, Ideal.ieee], zero_add]
  rfl

end Cert.KernelIdeal.Body

end
-- ==== Proof.Ker.Total.lean ====
/- The kernel's result at the extended reals: the loss of every one of the 16384 rows, added up and divided by 16384. -/
module

public import proofs.«01_k».proof.Proof.Ker.Run
public import proofs.«01_k».proof.Proof.Ker.Val

@[expose] public section

set_option maxRecDepth 16384

noncomputable section

namespace Cert.KernelIdeal.Body

open Cert.KernelIdeal Cert.KernelIdeal.Gen Idealize.ShloMosaic Idealize.ShloMosaic.TcCoe Idealize.SL.Sem

/-- The loss of row `p` of a batch, from arrays given as functions of their coordinates. -/
def rowAt {n : ℕ} (x : Fin n → Fin 768 → EReal) (w1 : Fin 768 → Fin 2048 → EReal) (w2 : Fin 2048 → Fin 256 → EReal)
    (d1 : Fin 256 → Fin 2048 → EReal) (d2 : Fin 2048 → Fin 768 → EReal) (cb : Fin 3 → Fin 1024 → Fin 256 → EReal)
    (g : Fin 3 → Fin n → Fin 1024 → EReal) (p : Fin n) : EReal :=
  Row.rowK (x p) w1 w2 d1 d2 (cb 0) (cb 1) (cb 2) (g 0 p) (g 1 p) (g 2 p)

/-- The squared lengths at an entry. -/
theorem lens_at (x5 : Vec Ideal S3x1024x256 .bf16) (l : Fin 3) (k : Fin 1024) :
    lens x5 (ix2 l k) = ∑ d : Fin 256, x5 (ix3 l k d) * x5 (ix3 l k d) := by
  unfold lens k0_pay2
  simp only [pointwise, zero_add]

theorem cbk0_at (x : Vec Ideal S3x1024x256 .bf16) (k : Fin 1024) (d : Fin 256) : cbk0 x (ix3 0 k d) = x (ix3 0 k d) :=
  View.ld_unit_apply_of x _ _ _ _ _ fun a => match a with
    | ⟨0, _⟩ => rfl
    | ⟨1, _⟩ => (Nat.zero_add _).symm
    | ⟨2, _⟩ => (Nat.zero_add _).symm
theorem cbk1_at (x : Vec Ideal S3x1024x256 .bf16) (k : Fin 1024) (d : Fin 256) : cbk1 x (ix3 0 k d) = x (ix3 1 k d) :=
  View.ld_unit_apply_of x _ _ _ _ _ fun a => match a with
    | ⟨0, _⟩ => rfl
    | ⟨1, _⟩ => (Nat.zero_add _).symm
    | ⟨2, _⟩ => (Nat.zero_add _).symm
theorem cbk2_at (x : Vec Ideal S3x1024x256 .bf16) (k : Fin 1024) (d : Fin 256) : cbk2 x (ix3 0 k d) = x (ix3 2 k d) :=
  View.ld_unit_apply_of x _ _ _ _ _ fun a => match a with
    | ⟨0, _⟩ => rfl
    | ⟨1, _⟩ => (Nat.zero_add _).symm
    | ⟨2, _⟩ => (Nat.zero_add _).symm
theorem len0_at (x : Vec Ideal S3x1024 .f32) (k : Fin 1024) : len0 x (ix2 0 k) = x (ix2 0 k) :=
  View.ld_unit_apply_of x _ _ _ _ _ fun a => match a with
    | ⟨0, _⟩ => rfl
    | ⟨1, _⟩ => (Nat.zero_add _).symm
theorem len1_at (x : Vec Ideal S3x1024 .f32) (k : Fin 1024) : len1 x (ix2 0 k) = x (ix2 1 k) :=
  View.ld_unit_apply_of x _ _ _ _ _ fun a => match a with
    | ⟨0, _⟩ => rfl
    | ⟨1, _⟩ => (Nat.zero_add _).symm
theorem len2_at (x : Vec Ideal S3x1024 .f32) (k : Fin 1024) : len2 x (ix2 0 k) = x (ix2 2 k) :=
  View.ld_unit_apply_of x _ _ _ _ _ fun a => match a with
    | ⟨0, _⟩ => rfl
    | ⟨1, _⟩ => (Nat.zero_add _).symm

/-- Rows `o, …, o + 511` of a grid point's batch block. -/
theorem ldx_at (x : Vec Ideal S1024x768 .f32) (o : ℕ) (inb : ∀ a, (![o, 0] : Fin 2 → ℕ) a + (![512, 768] : Fin 2 → ℕ) a ≤ S1024x768.size a)
    (p : Fin 512) (i : Fin 768) (r : Fin 1024) (hr : r.val = o + p.val) :
    View.ld x (Rect.unit ![o, 0] ![512, 768] inb) (ix2 p i) = x (ix2 r i) :=
  View.ld_unit_apply_of x _ _ _ _ _ fun a => match a with
    | ⟨0, _⟩ => hr
    | ⟨1, _⟩ => (Nat.zero_add _).symm

/-- Rows `o, …, o + 511` of layer `l` of a grid point's noise block. -/
theorem ldg_at (x : Vec Ideal S3x1024x1024 .f32) (l : Fin 3) (n o : ℕ) (hn : n = l.val)
    (inb : ∀ a, (![n, o, 0] : Fin 3 → ℕ) a + (![1, 512, 1024] : Fin 3 → ℕ) a ≤ S3x1024x1024.size a)
    (p : Fin 512) (k : Fin 1024) (r : Fin 1024) (hr : r.val = o + p.val) :
    View.ld x (Rect.unit ![n, o, 0] ![1, 512, 1024] inb) (ix3 0 p k) = x (ix3 l r k) :=
  View.ld_unit_apply_of x _ _ _ _ _ fun a => match a with
    | ⟨0, _⟩ => by subst hn; rfl
    | ⟨1, _⟩ => hr
    | ⟨2, _⟩ => (Nat.zero_add _).symm

/-- One grid point's loss: its 1024 rows' losses added. -/
theorem tile_at (x0 : Vec Ideal S1024x768 .f32) (x1 : Vec Ideal S768x2048 .bf16) (x2 : Vec Ideal S2048x256 .bf16) (x3 : Vec Ideal S256x2048 .bf16)
    (x4 : Vec Ideal S2048x768 .bf16) (x5 : Vec Ideal S3x1024x256 .bf16) (x6 : Vec Ideal S3x1024x1024 .f32) :
    tile x0 x1 x2 x3 x4 x5 x6 (lens x5)
      = ∑ p : Fin 1024, rowAt (fun p i => x0 (ix2 p i)) (fun i h => x1 (ix2 i h)) (fun h d => x2 (ix2 h d)) (fun d h => x3 (ix2 d h))
          (fun h i => x4 (ix2 h i)) (fun l k d => x5 (ix3 l k d)) (fun l p k => x6 (ix3 l p k)) p := by
  have q0 (k : Fin 1024) : len0 (lens x5) (ix2 0 k) = ∑ d : Fin 256, cbk0 x5 (ix3 0 k d) * cbk0 x5 (ix3 0 k d) := by
    rw [len0_at, lens_at]; simp only [cbk0_at]
  have q1 (k : Fin 1024) : len1 (lens x5) (ix2 0 k) = ∑ d : Fin 256, cbk1 x5 (ix3 0 k d) * cbk1 x5 (ix3 0 k d) := by
    rw [len1_at, lens_at]; simp only [cbk1_at]
  have q2 (k : Fin 1024) : len2 (lens x5) (ix2 0 k) = ∑ d : Fin 256, cbk2 x5 (ix3 0 k d) * cbk2 x5 (ix3 0 k d) := by
    rw [len2_at, lens_at]; simp only [cbk2_at]
  unfold tile tileQ
  rw [chunk_at _ _ _ _ _ _ _ _ _ _ _ _ _ _ _ q0 q1 q2, chunk_at _ _ _ _ _ _ _ _ _ _ _ _ _ _ _ q0 q1 q2]
  rw [show (Scalar.ofBits .f32 0x00000000#32 : Ideal .f32) = (0 : EReal) from by
    show Ideal.ofBits .f32 0x00000000#32 = 0; simp [Ideal.ofBits, Ideal.ieee], zero_add]
  refine Eq.trans ?_ (Fin.sum_univ_add (a := 512) (b := 512) _).symm
  refine congrArg₂ (· + ·) (Finset.sum_congr rfl fun p _ => ?_) (Finset.sum_congr rfl fun p _ => ?_)
  · have hr : (Fin.castAdd 512 p : Fin 1024).val = 0 + p.val := (Nat.zero_add _).symm
    unfold rowAt
    simp only [cbk0_at, cbk1_at, cbk2_at, ldx_at x0 0 _ p _ _ hr, ldg_at x6 0 0 0 rfl _ p _ _ hr, ldg_at x6 1 1 0 rfl _ p _ _ hr,
      ldg_at x6 2 2 0 rfl _ p _ _ hr]
  · have hr : (Fin.natAdd 512 p : Fin 1024).val = 512 + p.val := rfl
    unfold rowAt
    simp only [cbk0_at, cbk1_at, cbk2_at, ldx_at x0 512 _ p _ _ hr, ldg_at x6 0 0 512 rfl _ p _ _ hr, ldg_at x6 1 1 512 rfl _ p _ _ hr,
      ldg_at x6 2 2 512 rfl _ p _ _ hr]

variable (m : (ℓ : Loc nD τ sig) → Buf (Elt Ideal) ℓ)

/-- The loss of row `b` of the whole batch, from the kernel's arguments. -/
def rowOf (c : Dev nD) (b : Fin 16384) : EReal :=
  rowAt (fun b i => (m ((c : Thread nD τ).loc main_arg0) : Vec Ideal S16384x768 .f32) (ix2 b i))
    (fun i h => (m ((c : Thread nD τ).loc main_arg1) : Vec Ideal S768x2048 .f32) (ix2 i h))
    (fun h d => (m ((c : Thread nD τ).loc main_arg3) : Vec Ideal S2048x256 .f32) (ix2 h d))
    (fun d h => (m ((c : Thread nD τ).loc main_arg5) : Vec Ideal S256x2048 .f32) (ix2 d h))
    (fun h i => (m ((c : Thread nD τ).loc main_arg7) : Vec Ideal S2048x768 .f32) (ix2 h i))
    (fun l k d => (m ((c : Thread nD τ).loc main_arg9) : Vec Ideal S3x1024x256 .f32) (ix3 l k d))
    (fun l b k => (m ((c : Thread nD τ).loc main_arg10) : Vec Ideal S3x16384x1024 .f32) (ix3 l b k)) b

/-- The row a grid point's row is. -/
def rowIx (t : Fin 16) (p : Fin 1024) : Fin 16384 := ⟨1024 * t.val + p.val, by have := t.2; have := p.2; omega⟩

/-- A grid point's loss, from the kernel's arguments. -/
theorem tileAt_at (c : Dev nD) (t : Fin cfg0.N) :
    tileAt m c t = ∑ p : Fin 1024, rowOf m c (rowIx (Fin.cast N_0 t) p) := by
  unfold tileAt
  rw [show (iblk m c 5 ⟨0, pos0⟩ : Vec Ideal S3x1024x256 .bf16) = iblk m c 5 t from (iblk_cb m c _).trans (iblk_cb m c t).symm, tile_at]
  refine Finset.sum_congr rfl fun p _ => ?_
  have hr : (rowIx (Fin.cast N_0 t) p).val = 1024 * t.val + p.val := rfl
  have ex (i : Fin 768) := iblk_x m c t p i _ hr
  have eg (l : Fin 3) (k : Fin 1024) := iblk_g m c t l p k _ hr
  simp only [← ix2_eq_valueIdx, ← ix3_eq_valueIdx] at ex eg
  unfold rowOf rowAt
  simp only [ex, eg, iblk_w1, iblk_w2, iblk_d1, iblk_d2, iblk_cb]
  rfl

/-- The output cell after point `n`: the losses of points `0, …, n` added. -/
theorem chain_at (c : Dev nD) : ∀ (n : ℕ) (h : n < cfg0.N),
    chain m c n h (ix2 0 0) = ∑ t : Fin (n + 1), tileAt m c ⟨t.val, by have := t.2; omega⟩
  | 0, h => by
    unfold chain bump k0_pay3
    simp only [pointwise, zero_add]
    simp
  | n + 1, h => by
    rw [Fin.sum_univ_castSucc]
    refine Eq.trans ?_ (congrArg (· + tileAt m c ⟨n + 1, h⟩) (chain_at c n (Nat.lt_of_succ_lt h)))
    show bump _ _ (ix2 0 0) = _
    unfold bump
    simp only [pointwise]

/-- The kernel's result: the mean over the batch of the rows' losses. -/
theorem result_at (c : Dev nD) :
    result m c = fun _ => Ideal.div (∑ b : Fin 16384, rowOf m c b) (Ideal.ofBits .f32 0x46800000#32) := by
  have hsum : last m c (ix2 0 0) = ∑ b : Fin 16384, rowOf m c b := by
    unfold last
    rw [chain_at]
    rw [← Equiv.sum_comp (finProdFinEquiv (m := 16) (n := 1024)) (rowOf m c), Fintype.sum_prod_type]
    refine Finset.sum_congr rfl fun t _ => ?_
    rw [tileAt_at]
    refine Finset.sum_congr rfl fun p _ => congrArg (rowOf m c) (Fin.ext ?_)
    show 1024 * t.val + p.val = p.val + 1024 * t.val
    omega
  funext j
  obtain rfl : j = ix0 := funext fun a => a.elim0
  unfold result
  rw [← hsum]
  simp only [pointwise]

end Cert.KernelIdeal.Body

end
-- ==== Proof.Agree.lean ====
/- Row by row the two programs' losses agree, and so do their means. -/
module

public import proofs.«01_k».proof.Proof.Ref.Layer
public import proofs.«01_k».proof.Proof.Pre
public import proofs.«01_k».proof.Proof.Ref.Run
public import proofs.«01_k».proof.Proof.Ker.Total

@[expose] public section

set_option maxRecDepth 16384

noncomputable section

namespace Cert.Row

open Idealize.ShloMosaic

variable {D H I J K : Type} [Fintype D] [Fintype H] [Fintype I] [Fintype J] [Fintype K] [DecidableEq K]

/-- The two forms of a row's loss agree. The codebooks are real and the noise is below infinity; a layer's embedding is the entry of the
    largest score wherever the residual is real and the row has one largest score; and every layer's row has one, along
    the residuals that the entries of the largest score leave. -/
theorem rowK_eq_lossR (x : I → EReal) (w1 : I → J → EReal) (w2 : J → D → EReal) (d1 : D → H → EReal) (d2 : H → I → EReal)
    (c0 c1 c2 : K → D → EReal) (g0 g1 g2 : K → EReal) {r0 r1 r2 e0 e1 e2 : D → EReal}
    (hr0 : r0 = mlp w1 w2 x) (hr1 : r1 = fun d => r0 d - e0 d) (hr2 : r2 = fun d => r1 d - e1 d)
    (hc0 : ∀ k d, IsR (c0 k d)) (hc1 : ∀ k d, IsR (c1 k d)) (hc2 : ∀ k d, IsR (c2 k d))
    (hg0 : ∀ k, g0 k ≠ ⊤) (hg1 : ∀ k, g1 k ≠ ⊤) (hg2 : ∀ k, g2 k ≠ ⊤)
    (he0 : (∀ k, scoreR r0 c0 g0 k ≠ ⊤) → ∑ k, mark (scoreR r0 c0 g0) k = 1 → e0 = pick (scoreR r0 c0 g0) c0)
    (he1 : (∀ k, scoreR r1 c1 g1 k ≠ ⊤) → ∑ k, mark (scoreR r1 c1 g1) k = 1 → e1 = pick (scoreR r1 c1 g1) c1)
    (he2 : (∀ k, scoreR r2 c2 g2 k ≠ ⊤) → ∑ k, mark (scoreR r2 c2 g2) k = 1 → e2 = pick (scoreR r2 c2 g2) c2)
    {s1 s2 : D → EReal} (hs1 : s1 = fun d => r0 d - pick (scoreR r0 c0 g0) c0 d) (hs2 : s2 = fun d => s1 d - pick (scoreR s1 c1 g1) c1 d)
    (h0 : ∑ k, mark (scoreR r0 c0 g0) k = 1) (h1 : ∑ k, mark (scoreR s1 c1 g1) k = 1) (h2 : ∑ k, mark (scoreR s2 c2 g2) k = 1) :
    rowK x w1 w2 d1 d2 c0 c1 c2 g0 g1 g2 = lossR x d1 d2 r0 r1 r2 e0 e1 e2 := by
  unfold rowK
  rw [← hr0]
  by_cases hr : ∀ d, IsR (r0 d)
  · have a0 := he0 (scoreR_ne_top hr hc0 hg0) h0
    have i0 : ∀ d, IsR (e0 d) := fun d => by rw [a0]; exact pick_isR _ hc0 d
    have q1 : s1 = r1 := by rw [hs1, hr1, a0]
    have i1' : ∀ d, IsR (r1 d) := fun d => by rw [hr1]; exact (hr d).sub (i0 d)
    rw [q1] at h1 hs2
    have a1 := he1 (scoreR_ne_top i1' hc1 hg1) h1
    have i1 : ∀ d, IsR (e1 d) := fun d => by rw [a1]; exact pick_isR _ hc1 d
    have q2 : s2 = r2 := by rw [hs2, hr2, a1]
    have i2' : ∀ d, IsR (r2 d) := fun d => by rw [hr2]; exact (i1' d).sub (i1 d)
    rw [q2] at h2
    have a2 := he2 (scoreR_ne_top i2' hc2 hg2) h2
    have i2 : ∀ d, IsR (e2 d) := fun d => by rw [a2]; exact pick_isR _ hc2 d
    have n0 : nextK c0 g0 r0 = r1 := by
      funext d; unfold nextK; rw [pick_scoreK hr hc0 hg0, ← a0, hr1]
    have n1 : nextK c1 g1 r1 = r2 := by
      funext d; unfold nextK; rw [pick_scoreK i1' hc1 hg1, ← a1, hr2]
    have n2 : nextK c2 g2 r2 = fun d => r2 d - e2 d := by
      funext d; unfold nextK; rw [pick_scoreK i2' hc2 hg2, ← a2]
    rw [n0, n1, n2, hr2, hr1]
    exact lossK_eq_lossR hr i0 i1 i2
  · obtain ⟨d, hd⟩ := not_forall.mp hr
    rw [lossR_top hd]
    exact lossK_top hd (pick (scoreK r0 c0 g0) c0) _ _

end Cert.Row

namespace Cert.ReferenceIdeal.Stage

open Cert.ReferenceIdeal Cert.ReferenceIdeal.Gen Idealize.ShloMosaic Idealize.ShloMosaic.StableHlo

/-- Two sums of equal terms have equal quotients. -/
theorem mean_congr {N T : Type} [Fintype N] {u v : N → EReal} (z : EReal) (h : ∀ b, u b = v b) :
    (fun _ : T => Ideal.div (∑ b, u b) z) = fun _ => Ideal.div (∑ b, v b) z := by
  obtain rfl : u = v := funext h
  rfl

/-- Under the precondition the reference's result is the mean of the rows' losses in the kernel's form. -/
theorem loss_at (x : FVec Ideal S16384x768 .f32) (w1 : FVec Ideal S768x2048 .f32) (b1 : FVec Ideal S2048 .f32)
    (w2 : FVec Ideal S2048x256 .f32) (b2 : FVec Ideal S256 .f32) (d1 : FVec Ideal S256x2048 .f32) (c1 : FVec Ideal S2048 .f32)
    (d2 : FVec Ideal S2048x768 .f32) (c2 : FVec Ideal S768 .f32) (cb : FVec Ideal S3x1024x256 .f32) (g : FVec Ideal S3x16384x1024 .f32)
    (tau : FVec Ideal S_ .f32) (h : Plain x w1 b1 w2 b2 c1 c2 cb g tau) :
    loss x w1 b1 w2 b2 d1 c1 d2 c2 cb g tau
      = fun _ => Ideal.div (∑ b : Fin 16384, Row.rowK (fun i : Fin 768 => x (ix2 b i)) (fun (i : Fin 768) (h : Fin 2048) => w1 (ix2 i h))
          (fun (h : Fin 2048) (d : Fin 256) => w2 (ix2 h d)) (fun (d : Fin 256) (h : Fin 2048) => d1 (ix2 d h))
          (fun (h : Fin 2048) (i : Fin 768) => d2 (ix2 h i))
          (fun (k : Fin 1024) (d : Fin 256) => cb (ix3 0 k d)) (fun (k : Fin 1024) (d : Fin 256) => cb (ix3 1 k d))
          (fun (k : Fin 1024) (d : Fin 256) => cb (ix3 2 k d))
          (fun k : Fin 1024 => g (ix3 0 b k)) (fun k : Fin 1024 => g (ix3 1 b k)) (fun k : Fin 1024 => g (ix3 2 b k)))
        (Ideal.ofBits .f32 0x46800000#32) := by
  unfold loss
  dsimp only
  rw [lossFrom_at _ _ _ _ _ h.hc1 h.hc2]
  refine mean_congr _ fun b => Eq.symm ?_
  obtain ⟨t, ht, t0⟩ := h.htau
  have k0 := h.one0 b
  have k1 := h.one1 b
  have k2 := h.one2 b
  have er0 : (fun d : Fin 256 => enc x w1 b1 w2 b2 (ix2 b d)) = Row.mlp (fun i h => w1 (ix2 i h)) (fun h d => w2 (ix2 h d)) (fun i => x (ix2 b i)) :=
    funext fun d => enc_at x w1 b1 w2 b2 h.hb1 h.hb2 b d
  generalize enc x w1 b1 w2 b2 = r0 at k0 k1 k2 er0 ⊢
  have ee (r : FVec Ideal S16384x256 .f32) (c : FVec Ideal S1024x256 .f32) (n : FVec Ideal S16384x1024 .f32)
      (hs : ∀ k, Row.scoreR (fun d : Fin 256 => r (ix2 b d)) (fun (k : Fin 1024) d => c (ix2 k d)) (fun k => n (ix2 b k)) k ≠ ⊤)
      (h1 : ∑ k, Row.mark (Row.scoreR (fun d : Fin 256 => r (ix2 b d)) (fun (k : Fin 1024) d => c (ix2 k d)) (fun k => n (ix2 b k))) k = 1) :=
    funext (emb_at r c n tau b ht t0 hs h1)
  have ee0 := ee r0 (book0 cb) (noise0 g)
  generalize emb r0 (book0 cb) (noise0 g) tau = e0 at ee0 ⊢
  have ee1 := ee (subf r0 e0) (book1 cb) (noise1 g)
  generalize emb (subf r0 e0) (book1 cb) (noise1 g) tau = e1 at ee1 ⊢
  have ee2 := ee (subf (subf r0 e0) e1) (book2 cb) (noise2 g)
  generalize emb (subf (subf r0 e0) e1) (book2 cb) (noise2 g) tau = e2 at ee2 ⊢
  have es1 : (fun d : Fin 256 => rest1 r0 cb g (ix2 b d)) = _ := funext fun d => rest_at r0 (book0 cb) (noise0 g) b d
  have es2 : (fun d : Fin 256 => rest2 r0 cb g (ix2 b d)) = _ := funext fun d => rest_at (rest1 r0 cb g) (book1 cb) (noise1 g) b d
  simp only [perturbed_at, book0_at, book1_at, book2_at, noise0_at, noise1_at, noise2_at] at k0 k1 k2 ee0 ee1 ee2 es1 es2
  exact Row.rowK_eq_lossR _ _ _ _ _ _ _ _ _ _ _ er0 rfl rfl (h.hcb 0) (h.hcb 1) (h.hcb 2) (h.hg 0 b) (h.hg 1 b) (h.hg 2 b) ee0 ee1 ee2 es1 es2 k0 k1 k2

/-- From memories that agree on the arguments, and under the precondition, the reference's result is the kernel's. -/
theorem result_eq (m : (ℓ : Loc Cert.KernelIdeal.nD Cert.KernelIdeal.τ Cert.KernelIdeal.sig) → Buf (Elt Ideal) ℓ)
    (m' : (ℓ : Loc nD τ sig) → Buf (Elt Ideal) ℓ) (c : Dev nD)
    (h : Plain (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg6))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9))
      (m ((c.tc : Thread Cert.KernelIdeal.nD Cert.KernelIdeal.τ).loc Cert.KernelIdeal.main_arg10)) (m ((c.tc : Thread Cert.KernelIdeal.nD Cert.KernelIdeal.τ).loc Cert.KernelIdeal.main_arg11)))
    (h0 : m' ((c.tc : Thread nD τ).loc main_arg0) = m ((c.tc : Thread Cert.KernelIdeal.nD Cert.KernelIdeal.τ).loc Cert.KernelIdeal.main_arg0))
    (h1 : m' ((c.tc : Thread nD τ).loc main_arg1) = m ((c.tc : Thread Cert.KernelIdeal.nD Cert.KernelIdeal.τ).loc Cert.KernelIdeal.main_arg1))
    (h2 : m' ((c.tc : Thread nD τ).loc main_arg2) = m ((c.tc : Thread Cert.KernelIdeal.nD Cert.KernelIdeal.τ).loc Cert.KernelIdeal.main_arg2))
    (h3 : m' ((c.tc : Thread nD τ).loc main_arg3) = m ((c.tc : Thread Cert.KernelIdeal.nD Cert.KernelIdeal.τ).loc Cert.KernelIdeal.main_arg3))
    (h4 : m' ((c.tc : Thread nD τ).loc main_arg4) = m ((c.tc : Thread Cert.KernelIdeal.nD Cert.KernelIdeal.τ).loc Cert.KernelIdeal.main_arg4))
    (h5 : m' ((c.tc : Thread nD τ).loc main_arg5) = m ((c.tc : Thread Cert.KernelIdeal.nD Cert.KernelIdeal.τ).loc Cert.KernelIdeal.main_arg5))
    (h6 : m' ((c.tc : Thread nD τ).loc main_arg6) = m ((c.tc : Thread Cert.KernelIdeal.nD Cert.KernelIdeal.τ).loc Cert.KernelIdeal.main_arg6))
    (h7 : m' ((c.tc : Thread nD τ).loc main_arg7) = m ((c.tc : Thread Cert.KernelIdeal.nD Cert.KernelIdeal.τ).loc Cert.KernelIdeal.main_arg7))
    (h8 : m' ((c.tc : Thread nD τ).loc main_arg8) = m ((c.tc : Thread Cert.KernelIdeal.nD Cert.KernelIdeal.τ).loc Cert.KernelIdeal.main_arg8))
    (h9 : m' ((c.tc : Thread nD τ).loc main_arg9) = m ((c.tc : Thread Cert.KernelIdeal.nD Cert.KernelIdeal.τ).loc Cert.KernelIdeal.main_arg9))
    (h10 : m' ((c.tc : Thread nD τ).loc main_arg10) = m ((c.tc : Thread Cert.KernelIdeal.nD Cert.KernelIdeal.τ).loc Cert.KernelIdeal.main_arg10))
    (h11 : m' ((c.tc : Thread nD τ).loc main_arg11) = m ((c.tc : Thread Cert.KernelIdeal.nD Cert.KernelIdeal.τ).loc Cert.KernelIdeal.main_arg11)) :
    Line.result m' c = Cert.KernelIdeal.Body.result m c := by
  unfold Line.result
  rw [h0, h1, h2, h3, h4, h5, h6, h7, h8, h9, h10, h11]
  refine (loss_at _ _ _ _ _ _ _ _ _ _ _ _ h).trans ?_
  rw [Cert.KernelIdeal.Body.result_at]
  rfl

end Cert.ReferenceIdeal.Stage

end
-- ==== Proof.lean ====
/- The kernel runs and leaves its arguments unchanged, its ideal version and the reference likewise, and over the
   reals, under the precondition, the two end with the same loss. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_plain_and_untied
public import proofs.«01_k».proof.Proof.Agree
public import Idealize.ShloMosaic.Adequacy
public import Idealize.ShloMosaic.Init

@[expose] public section

noncomputable section

namespace Cert.Proof

open Idealize.ShloMosaic Idealize.SL.Sem

/-- The reference runs, leaves its arguments unchanged, and has no semaphore that could end elsewhere than at zero. -/
theorem frame_reference : Cert.quiescent_ReferenceIdeal := fun m g _ =>
  θ_run_mono (Cert.ReferenceIdeal.Line.run m g) fun r h => ⟨fun c => (h c).2, sem_eq_zero_of_no_sems (by decide) r.2⟩

/-- Over the reals, and under the precondition, the kernel and the reference end with the same loss. -/
theorem same_loss : Cert.algebraic_KernelIdeal_ReferenceIdeal_pre_plain_and_untied := by
  intro m g m' g' hpre hagree
  refine ⟨fun c => Cert.KernelIdeal.Body.result m c,
    θ_run_mono (θ_run_and (Cert.KernelIdeal.Body.run m g) (Cert.KernelIdeal.Gen.frame m g)) fun r h c => ⟨h.1 c, h.2.1 c⟩,
    θ_run_mono (Cert.ReferenceIdeal.Line.run m' g') fun r h c => ⟨(h c).1.trans ?_, (h c).2⟩⟩
  obtain ⟨h0, h1, h2, h3, h4, h5, h6, h7, h8, h9, h10, h11⟩ := hagree c
  exact Cert.ReferenceIdeal.Stage.result_eq m m' c (Cert.ReferenceIdeal.Stage.plain_of _ rfl (hpre c)) h0 h1 h2 h3 h4 h5 h6 h7 h8 h9 h10 h11

/-- All the claims together. -/
theorem claim : Cert.Claim :=
  ⟨Cert.Kernel.Gen.facts, Cert.KernelIdeal.Gen.facts, Cert.ReferenceIdeal.Gen.facts, Cert.Pre_plain_and_untied.Gen.facts,
    fun m g _ => Cert.Kernel.Gen.frame m g, fun m g _ => Cert.KernelIdeal.Gen.frame m g,
    fun m g _ => Cert.KernelIdeal.Gen.frame m g, frame_reference, fun m g _ => frame_reference m g trivial,
    trivial, same_loss⟩

end Cert.Proof

end
